-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ten_greatest_apart_three_per_lane [hPre_ten_greatest_apart_three_per_lane : Cert.Pre_ten_greatest_apart_three_per_lane.Facts] (m : (ℓ : Loc Cert.KernelIdeal.nD Cert.KernelIdeal.τ Cert.KernelIdeal.sig) → Buf (Elt Ideal) ℓ) : Prop :=
  ∀ c : Dev Cert.KernelIdeal.nD,
    (Cert.Pre_ten_greatest_apart_three_per_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ten_greatest_apart_three_per_lane [hPre_ten_greatest_apart_three_per_lane : Cert.Pre_ten_greatest_apart_three_per_lane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ten_greatest_apart_three_per_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ten_greatest_apart_three_per_lane [hKernelIdeal : Cert.KernelIdeal.Facts] [hPre_ten_greatest_apart_three_per_lane : Cert.Pre_ten_greatest_apart_three_per_lane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ten_greatest_apart_three_per_lane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ten_greatest_apart_three_per_lane [hReferenceIdeal : Cert.ReferenceIdeal.Facts] [hPre_ten_greatest_apart_three_per_lane : Cert.Pre_ten_greatest_apart_three_per_lane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ten_greatest_apart_three_per_lane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ten_greatest_apart_three_per_lane [hKernelIdeal : Cert.KernelIdeal.Facts] [hReferenceIdeal : Cert.ReferenceIdeal.Facts] [hPre_ten_greatest_apart_three_per_lane : Cert.Pre_ten_greatest_apart_three_per_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ten_greatest_apart_three_per_lane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ten_greatest_apart_three_per_lane : Cert.Pre_ten_greatest_apart_three_per_lane.Facts),
    quiescent_Kernel (hKernel := hKernel)
    ∧ quiescent_KernelIdeal (hKernelIdeal := hKernelIdeal)
    ∧ quiescent_KernelIdeal_pre_ten_greatest_apart_three_per_lane (hKernelIdeal := hKernelIdeal) (hPre_ten_greatest_apart_three_per_lane := hPre_ten_greatest_apart_three_per_lane)
    ∧ quiescent_ReferenceIdeal (hReferenceIdeal := hReferenceIdeal)
    ∧ quiescent_ReferenceIdeal_pre_ten_greatest_apart_three_per_lane (hReferenceIdeal := hReferenceIdeal) (hPre_ten_greatest_apart_three_per_lane := hPre_ten_greatest_apart_three_per_lane)
    ∧ preserves_Kernel_KernelIdeal
    ∧ algebraic_KernelIdeal_ReferenceIdeal_pre_ten_greatest_apart_three_per_lane (hKernelIdeal := hKernelIdeal) (hReferenceIdeal := hReferenceIdeal) (hPre_ten_greatest_apart_three_per_lane := hPre_ten_greatest_apart_three_per_lane)
-- ==== Pre_ten_greatest_apart_three_per_lane.lean ====
abbrev S8192x128 : Shape := ⟨2, ![8192, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x128 : Shape := ⟨2, ![1, 128]⟩
abbrev S_ : Shape := ⟨0, ![]⟩
abbrev S128x8192 : Shape := ⟨2, ![128, 8192]⟩
abbrev S8192x8192 : Shape := ⟨2, ![8192, 8192]⟩
abbrev S8192x11 : Shape := ⟨2, ![8192, 11]⟩
abbrev S8192x10 : Shape := ⟨2, ![8192, 10]⟩
abbrev S8192x1 : Shape := ⟨2, ![8192, 1]⟩
abbrev S8192x64x128 : Shape := ⟨3, ![8192, 64, 128]⟩

class Facts : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S128_d0 : S8192x128.ReducesTo [0] S128
  h_S_ : 0 < S_.numel
  bcast_S_S1x128 : S_.BroadcastsInDim S1x128 (![] : Fin 0 → Fin S1x128.rank)
  transposes_S8192x128_S128x8192_1_0 : S8192x128.Transposes [1, 0] S128x8192
  sliceFits_S8192x8192_S8192x11 : S8192x8192.Slices (fun _ => 0) S8192x11
  slices_S8192x11_S8192x10_0_0 : S8192x11.Slices ![0, 0] S8192x10
  slices_S8192x11_S8192x10_0_1 : S8192x11.Slices ![0, 1] S8192x10
  reducesTo_S8192x10_S_d0_1 : S8192x10.ReducesTo [0, 1] S_
  slices_S8192x11_S8192x1_0_9 : S8192x11.Slices ![0, 9] S8192x1
  bcast_S8192x1_S8192x8192_0_1 : S8192x1.BroadcastsInDim S8192x8192 (![0, 1] : Fin 2 → Fin S8192x8192.rank)
  natLt_1_32 : 1 < 32
  shapeCasts_S8192x8192_S8192x64x128 : S8192x8192.ShapeCasts S8192x64x128
  reducesTo_S8192x64x128_S8192x128_d1 : S8192x64x128.ReducesTo [1] S8192x128
  reducesTo_S8192x128_S_d0_1 : S8192x128.ReducesTo [0, 1] S_
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []

variable [Facts]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def fn_norm {F : FTy → Type} [FloatOps F] (arg0 : FVec F S8192x128 .f32) : FVec F S1x128 .f32 :=
  let v0 : FVec F S8192x128 .f32 := mulf arg0 arg0
  let cst : FVec F S_ .f32 := constant S_ .f32 0x00000000#32
  let v1 : FVec F S128 .f32 := (fun x v => Host.reduceAdd x v reducesTo_S8192x128_S128_d0 h_S_) v0 cst
  let v2 : FVec F S1x128 .f32 := broadcastInDim S1x128 ![1] bcast_S128_S1x128_1 v1
  let v3 : FVec F S1x128 .f32 := Host.sqrt v2
  v3

def fn_part1 {F : FTy → Type} [FloatOps F] (main_v17 : FVec F S8192x8192 .f32) (main_values : FVec F S8192x11 .f32) (main_v18 : FVec F S8192x10 .f32) : IVec S_ 1 :=
  let main_v19 : FVec F S8192x10 .f32 := (extractStridedSlice S8192x10 ![0, 1] · slices_S8192x11_S8192x10_0_1) main_values
  let main_v20 : IVec S8192x10 1 := cmpf .ogt main_v18 main_v19
  let main_c : IVec S_ 1 := constantI S_ 1 1#1
  let main_v21 : IVec S_ 1 := (fun x v => Host.reduce IntOp.andi x v reducesTo_S8192x10_S_d0_1 h_S_) main_v20 main_c
  let main_v22 : FVec F S8192x1 .f32 := (extractStridedSlice S8192x1 ![0, 9] · slices_S8192x11_S8192x1_0_9) main_values
  let main_v23 : FVec F S8192x8192 .f32 := broadcastInDim S8192x8192 ![0, 1] bcast_S8192x1_S8192x8192_0_1 main_v22
  let main_v24 : IVec S8192x8192 1 := cmpf .oge main_v17 main_v23
  let main_v25 : IVec S8192x8192 32 := (extui 32 · natLt_1_32) main_v24
  let main_v26 : IVec S8192x64x128 32 := shapeCast S8192x64x128 main_v25 shapeCasts_S8192x8192_S8192x64x128
  let main_c_2 : IVec S_ 32 := constantI S_ 32 0#32
  let main_v27 : IVec S8192x128 32 := (fun x v => Host.reduce IntOp.addi x v reducesTo_S8192x64x128_S8192x128_d1 h_S_) main_v26 main_c_2
  let main_c_3 : IVec S_ 32 := constantI S_ 32 3#32
  let main_v28 : IVec S8192x128 32 := broadcastInDim S8192x128 ![] bcast_S_S8192x128 main_c_3
  let main_v29 : IVec S8192x128 1 := cmpi .sle main_v27 main_v28
  let main_c_4 : IVec S_ 1 := constantI S_ 1 1#1
  let main_v30 : IVec S_ 1 := (fun x v => Host.reduce IntOp.andi x v reducesTo_S8192x128_S_d0_1 h_S_) main_v29 main_c_4
  let main_v31 : IVec S_ 1 := andi main_v21 main_v30
  main_v31

def fn {F : FTy → Type} [FloatOps F] (main_arg0 : FVec F S8192x128 .f32) (main_arg1 : FVec F S128x128 .f32) (main_arg2 : FVec F S128 .f32) (main_arg3 : FVec F S128x256 .f32) (main_arg4 : FVec F S256 .f32) (main_arg5 : FVec F S256x64 .f32) (main_arg6 : FVec F S64 .f32) : IVec S_ 1 :=
  let main_v0 : FVec F S8192x128 .f32 := (fun l r => Host.dotGeneral dot_S8192x128_S128x128_S8192x128_1_0_0_1_n_n none l r) main_arg0 main_arg1
  let main_v1 : FVec F S1x128 .f32 := broadcastInDim S1x128 ![1] bcast_S128_S1x128_1 main_arg2
  let main_v2 : FVec F S8192x128 .f32 := broadcastInDim S8192x128 ![0, 1] bcast_S1x128_S8192x128_0_1 main_v1
  let main_v3 : FVec F S8192x128 .f32 := addf main_v0 main_v2
  let main_v4 : FVec F S8192x128 .f32 := Host.negf main_v3
  let main_v5 : FVec F S8192x128 .f32 := Host.exp main_v4
  let main_cst : FVec F S_ .f32 := constant S_ .f32 0x3F800000#32
  let main_v6 : FVec F S8192x128 .f32 := broadcastInDim S8192x128 ![] bcast_S_S8192x128 main_cst
  let main_v7 : FVec F S8192x128 .f32 := addf main_v6 main_v5
  let main_cst_0 : FVec F S_ .f32 := constant S_ .f32 0x3F800000#32
  let main_v8 : FVec F S8192x128 .f32 := broadcastInDim S8192x128 ![] bcast_S_S8192x128 main_cst_0
  let main_v9 : FVec F S8192x128 .f32 := Host.divf main_v8 main_v7
  let main_v10 : FVec F S8192x128 .f32 := mulf main_v9 main_arg0
  let main_v11 : FVec F S1x128 .f32 := fn_norm (F := F) main_v10
  let main_cst_1 : FVec F S_ .f32 := constant S_ .f32 0x2B8CBCCC#32
  let main_v12 : FVec F S1x128 .f32 := broadcastInDim S1x128 ![] bcast_S_S1x128 main_cst_1
  let main_v13 : FVec F S1x128 .f32 := maximumf main_v11 main_v12
  let main_v14 : FVec F S8192x128 .f32 := broadcastInDim S8192x128 ![0, 1] bcast_S1x128_S8192x128_0_1 main_v13
  let main_v15 : FVec F S8192x128 .f32 := Host.divf main_v10 main_v14
  let main_v16 : FVec F S128x8192 .f32 := (transpose S128x8192 [1, 0] · transposes_S8192x128_S128x8192_1_0) main_v15
  let main_v17 : FVec F S8192x8192 .f32 := (fun l r => Host.dotGeneral dot_S8192x128_S128x8192_S8192x8192_1_0_0_1_n_n none l r) main_v15 main_v16
  let main_values : FVec F S8192x11 .f32 := (fun x => (Host.topK S8192x11 1 (FloatOps.cmpfTotal .gt) x sliceFits_S8192x8192_S8192x11).1) main_v17
  let main_indices : IVec S8192x11 32 := (fun x => (Host.topK S8192x11 1 (FloatOps.cmpfTotal .gt) x sliceFits_S8192x8192_S8192x11).2) main_v17
  let main_v18 : FVec F S8192x10 .f32 := (extractStridedSlice S8192x10 ![0, 0] · slices_S8192x11_S8192x10_0_0) main_values
  fn_part1 (F := F) main_v17 main_values main_v18
-- ==== Kernel.lean ====
abbrev S8192x128 : Shape := ⟨2, ![8192, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x128 : Shape := ⟨2, ![1, 128]⟩
abbrev S1x256 : Shape := ⟨2, ![1, 256]⟩
abbrev S1x64 : Shape := ⟨2, ![1, 64]⟩
abbrev S8192x8192 : Shape := ⟨2, ![8192, 8192]⟩
abbrev S8192x256 : Shape := ⟨2, ![8192, 256]⟩
abbrev S512x128 : Shape := ⟨2, ![512, 128]⟩
abbrev S512x8192 : Shape := ⟨2, ![512, 8192]⟩
abbrev S512x256 : Shape := ⟨2, ![512, 256]⟩
abbrev S512 : Shape := ⟨1, ![512]⟩
abbrev S512x1 : Shape := ⟨2, ![512, 1]⟩
abbrev S8192x64 : Shape := ⟨2, ![8192, 64]⟩
abbrev S512x64 : Shape := ⟨2, ![512, 64]⟩

abbrev nBuf : Space → Nat
  | .hbm => 14
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x128, .f32⟩
  | .hbm, ⟨8, _⟩ => ⟨S1x256, .f32⟩
  | .hbm, ⟨9, _⟩ => ⟨S1x64, .f32⟩
  | .hbm, ⟨10, _⟩ => ⟨S8192x128, .f32⟩
  | .hbm, ⟨11, _⟩ => ⟨S8192x8192, .f32⟩
  | .hbm, ⟨12, _⟩ => ⟨S8192x256, .f32⟩
  | .hbm, ⟨13, _⟩ => ⟨S8192x64, .f32⟩
  | .local _ .vmem, ⟨0, _⟩ => ⟨S8192x128, .f32⟩
  | .local _ .vmem, ⟨1, _⟩ => ⟨S128x128, .f32⟩
  | .local _ .vmem, ⟨2, _⟩ => ⟨S1x128, .f32⟩
  | .local _ .vmem, ⟨3, _⟩ => ⟨S8192x128, .f32⟩
  | .local _ .vmem, ⟨4, _⟩ => ⟨S512x128, .f32⟩
  | .local _ .vmem, ⟨5, _⟩ => ⟨S512x128, .f32⟩
  | .local _ .vmem, ⟨6, _⟩ => ⟨S8192x128, .f32⟩
  | .local _ .vmem, ⟨7, _⟩ => ⟨S128x256, .f32⟩
  | .local _ .vmem, ⟨8, _⟩ => ⟨S1x256, .f32⟩
  | .local _ .vmem, ⟨9, _⟩ => ⟨S512x8192, .f32⟩
  | .local _ .vmem, ⟨10, _⟩ => ⟨S512x8192, .f32⟩
  | .local _ .vmem, ⟨11, _⟩ => ⟨S512x256, .f32⟩
  | .local _ .vmem, ⟨12, _⟩ => ⟨S512x256, .f32⟩
  | .local _ .vmem, ⟨13, _⟩ => ⟨S512x8192, .f32⟩
  | .local _ .vmem, ⟨14, _⟩ => ⟨S512x8192, .f32⟩
  | .local _ .vmem, ⟨15, _⟩ => ⟨S8192x256, .f32⟩
  | .local _ .vmem, ⟨16, _⟩ => ⟨S256x64, .f32⟩
  | .local _ .vmem, ⟨17, _⟩ => ⟨S1x64, .f32⟩
  | .local _ .vmem, ⟨18, _⟩ => ⟨S512x64, .f32⟩
  | .local _ .vmem, ⟨19, _⟩ => ⟨S512x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := .none

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S8192x128 : Shape := ⟨2, ![8192, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x128 : Shape := ⟨2, ![1, 128]⟩
abbrev S_ : Shape := ⟨0, ![]⟩
abbrev S128x8192 : Shape := ⟨2, ![128, 8192]⟩
abbrev S8192x8192 : Shape := ⟨2, ![8192, 8192]⟩
abbrev S8192x10 : Shape := ⟨2, ![8192, 10]⟩
abbrev S8192 : Shape := ⟨1, ![8192]⟩
abbrev S81920 : Shape := ⟨1, ![81920]⟩
abbrev S81920x1 : Shape := ⟨2, ![81920, 1]⟩
abbrev S1 : Shape := ⟨1, ![1]⟩
abbrev S1x1 : Shape := ⟨2, ![1, 1]⟩
abbrev S81920x128 : Shape := ⟨2, ![81920, 128]⟩
abbrev S8192x1 : Shape := ⟨2, ![8192, 1]⟩
abbrev S8192x256 : Shape := ⟨2, ![8192, 256]⟩
abbrev S1x256 : Shape := ⟨2, ![1, 256]⟩
abbrev S81920x256 : Shape := ⟨2, ![81920, 256]⟩
abbrev S8192x64 : Shape := ⟨2, ![8192, 64]⟩
abbrev S1x64 : Shape := ⟨2, ![1, 64]⟩
abbrev S81920x2 : Shape := ⟨2, ![81920, 2]⟩

abbrev nBuf : Space → Nat
  | .hbm => 150
  | .vmem => 0
  | .smem => 0
  | _ => 0

abbrev hbmTy0_0 (i : Nat) : BufTy := match i % 128 with
  | 0 => ⟨S8192x128, .f32⟩
  | 1 => ⟨S128x128, .f32⟩
  | 2 => ⟨S128, .f32⟩
  | 3 => ⟨S128x256, .f32⟩
  | 4 => ⟨S256, .f32⟩
  | 5 => ⟨S256x64, .f32⟩
  | 6 => ⟨S64, .f32⟩
  | 7 => ⟨S8192x128, .f32⟩
  | 8 => ⟨S1x128, .f32⟩
  | 9 => ⟨S8192x128, .f32⟩
  | 10 => ⟨S8192x128, .f32⟩
  | 11 => ⟨S8192x128, .f32⟩
  | 12 => ⟨S8192x128, .f32⟩
  | 13 => ⟨S_, .f32⟩
  | 14 => ⟨S8192x128, .f32⟩
  | 15 => ⟨S8192x128, .f32⟩
  | 16 => ⟨S_, .f32⟩
  | 17 => ⟨S8192x128, .f32⟩
  | 18 => ⟨S8192x128, .f32⟩
  | 19 => ⟨S8192x128, .f32⟩
  | 20 => ⟨S8192x128, .f32⟩
  | 21 => ⟨S_, .f32⟩
  | 22 => ⟨S128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S8192x128, .f32⟩
  | 29 => ⟨S8192x128, .f32⟩
  | 30 => ⟨S128x8192, .f32⟩
  | 31 => ⟨S8192x8192, .f32⟩
  | 32 => ⟨S8192x10, .f32⟩
  | 33 => ⟨S8192x10, .i32⟩
  | 34 => ⟨S8192, .i32⟩
  | 35 => ⟨S8192x10, .i32⟩
  | 36 => ⟨S81920, .i32⟩
  | 37 => ⟨S81920, .i32⟩
  | 38 => ⟨S81920, .f32⟩
  | 39 => ⟨S81920x1, .f32⟩
  | 40 => ⟨S_, .i32⟩
  | 41 => ⟨S81920, .i32⟩
  | 42 => ⟨S81920, .i1⟩
  | 43 => ⟨S_, .i32⟩
  | 44 => ⟨S81920, .i32⟩
  | 45 => ⟨S81920, .i32⟩
  | 46 => ⟨S81920, .i32⟩
  | 47 => ⟨S81920x1, .i32⟩
  | 48 => ⟨S1, .i32⟩
  | 49 => ⟨S_, .i32⟩
  | 50 => ⟨S81920x1, .i32⟩
  | 51 => ⟨S81920x1, .i1⟩
  | 52 => ⟨S1x1, .i32⟩
  | 53 => ⟨S81920x1, .i32⟩
  | 54 => ⟨S81920x1, .i1⟩
  | 55 => ⟨S81920x1, .i1⟩
  | 56 => ⟨S_, .i1⟩
  | 57 => ⟨S81920, .i1⟩
  | 58 => ⟨S81920x128, .f32⟩
  | 59 => ⟨S81920x128, .i1⟩
  | 60 => ⟨S_, .f32⟩
  | 61 => ⟨S81920x128, .f32⟩
  | 62 => ⟨S81920x128, .f32⟩
  | 63 => ⟨S81920x128, .f32⟩
  | 64 => ⟨S81920x128, .f32⟩
  | 65 => ⟨S_, .f32⟩
  | 66 => ⟨S8192x128, .f32⟩
  | 67 => ⟨S81920x1, .i32⟩
  | 68 => ⟨S8192x128, .f32⟩
  | 69 => ⟨S_, .f32⟩
  | 70 => ⟨S8192, .f32⟩
  | 71 => ⟨S81920x1, .i32⟩
  | 72 => ⟨S8192, .f32⟩
  | 73 => ⟨S_, .f32⟩
  | 74 => ⟨S8192, .f32⟩
  | 75 => ⟨S8192, .f32⟩
  | 76 => ⟨S8192x1, .f32⟩
  | 77 => ⟨S8192x128, .f32⟩
  | 78 => ⟨S8192x128, .f32⟩
  | 79 => ⟨S8192x256, .f32⟩
  | 80 => ⟨S1x256, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S81920x1, .f32⟩
  | 87 => ⟨S_, .i32⟩
  | 88 => ⟨S81920, .i32⟩
  | 89 => ⟨S81920, .i1⟩
  | 90 => ⟨S_, .i32⟩
  | 91 => ⟨S81920, .i32⟩
  | 92 => ⟨S81920, .i32⟩
  | 93 => ⟨S81920, .i32⟩
  | 94 => ⟨S81920x1, .i32⟩
  | 95 => ⟨S1, .i32⟩
  | 96 => ⟨S_, .i32⟩
  | 97 => ⟨S81920x1, .i32⟩
  | 98 => ⟨S81920x1, .i1⟩
  | 99 => ⟨S1x1, .i32⟩
  | 100 => ⟨S81920x1, .i32⟩
  | 101 => ⟨S81920x1, .i1⟩
  | 102 => ⟨S81920x1, .i1⟩
  | 103 => ⟨S_, .i1⟩
  | 104 => ⟨S81920, .i1⟩
  | 105 => ⟨S81920x256, .f32⟩
  | 106 => ⟨S81920x256, .i1⟩
  | 107 => ⟨S_, .f32⟩
  | 108 => ⟨S81920x256, .f32⟩
  | 109 => ⟨S81920x256, .f32⟩
  | 110 => ⟨S81920x256, .f32⟩
  | 111 => ⟨S81920x256, .f32⟩
  | 112 => ⟨S_, .f32⟩
  | 113 => ⟨S8192x256, .f32⟩
  | 114 => ⟨S81920x1, .i32⟩
  | 115 => ⟨S8192x256, .f32⟩
  | 116 => ⟨S_, .f32⟩
  | 117 => ⟨S8192, .f32⟩
  | 118 => ⟨S81920x1, .i32⟩
  | 119 => ⟨S8192, .f32⟩
  | 120 => ⟨S_, .f32⟩
  | 121 => ⟨S8192, .f32⟩
  | 122 => ⟨S8192, .f32⟩
  | 123 => ⟨S8192x1, .f32⟩
  | 124 => ⟨S8192x256, .f32⟩
  | 125 => ⟨S8192x256, .f32⟩
  | 126 => ⟨S8192x64, .f32⟩
  | 127 => ⟨S1x64, .f32⟩
  | _ => ⟨S8192x128, .f32⟩

abbrev hbmTy0_1 (i : Nat) : BufTy := match i % 128 with
  | 0 => ⟨S8192x64, .f32⟩
  | 1 => ⟨S8192x64, .f32⟩
  | 2 => ⟨S_, .f32⟩
  | 3 => ⟨S8192x8192, .f32⟩
  | 4 => ⟨S_, .i32⟩
  | 5 => ⟨S81920, .i32⟩
  | 6 => ⟨S81920, .i1⟩
  | 7 => ⟨S_, .i32⟩
  | 8 => ⟨S81920, .i32⟩
  | 9 => ⟨S81920, .i32⟩
  | 10 => ⟨S81920, .i32⟩
  | 11 => ⟨S_, .i32⟩
  | 12 => ⟨S81920, .i32⟩
  | 13 => ⟨S81920, .i1⟩
  | 14 => ⟨S_, .i32⟩
  | 15 => ⟨S81920, .i32⟩
  | 16 => ⟨S81920, .i32⟩
  | 17 => ⟨S81920, .i32⟩
  | 18 => ⟨S81920x1, .i32⟩
  | 19 => ⟨S81920x1, .i32⟩
  | 20 => ⟨S81920x2, .i32⟩
  | 21 => ⟨S8192x8192, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_values : Ref sig .tc := ⟨.hbm, 32, rfl⟩
abbrev main_indices : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_2 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_3 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_4 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_call2_cst : Ref sig .tc := ⟨.hbm, 83, rfl⟩
abbrev main_call2_v0 : Ref sig .tc := ⟨.hbm, 84, rfl⟩
abbrev main_v42 : Ref sig .tc := ⟨.hbm, 85, rfl⟩
abbrev main_v43 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_cst_5 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_6 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_cst_7 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_8 : Ref sig .tc := ⟨.hbm, 130, rfl⟩
abbrev main_v62 : Ref sig .tc := ⟨.hbm, 131, rfl⟩
abbrev main_c : Ref sig .tc := ⟨.hbm, 132, rfl⟩
abbrev main_v63 : Ref sig .tc := ⟨.hbm, 133, rfl⟩
abbrev main_v64 : Ref sig .tc := ⟨.hbm, 134, rfl⟩
abbrev main_c_9 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_c_10 : Ref sig .tc := ⟨.hbm, 139, rfl⟩
abbrev main_v68 : Ref sig .tc := ⟨.hbm, 140, rfl⟩
abbrev main_v69 : Ref sig .tc := ⟨.hbm, 141, rfl⟩
abbrev main_c_11 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩

abbrev nD : Nat := 1
abbrev τ : Topo := Topo.v7x

variable {F : FTy → Type} [FloatOps F]
-- ==== Proof.PreFacts.lean ====
/- The side conditions that the precondition's operations take, proved. -/
module

public import proofs.«01_k».proof.Pre_ten_greatest_apart_three_per_lane

@[expose] public section

namespace Cert.Pre_ten_greatest_apart_three_per_lane

open Idealize.ShloMosaic

/-- Each shape relation that the precondition's operations take holds. -/
theorem facts : Facts where
  bcast_S128_S1x128_1 := by decide
  bcast_S1x128_S8192x128_0_1 := by decide
  bcast_S_S8192x128 := by decide
  reducesTo_S8192x128_S128_d0 := by decide
  h_S_ := by decide
  bcast_S_S1x128 := by decide
  transposes_S8192x128_S128x8192_1_0 := by decide
  sliceFits_S8192x8192_S8192x11 := by decide
  slices_S8192x11_S8192x10_0_0 := by decide
  slices_S8192x11_S8192x10_0_1 := by decide
  reducesTo_S8192x10_S_d0_1 := by decide
  slices_S8192x11_S8192x1_0_9 := by decide
  bcast_S8192x1_S8192x8192_0_1 := by decide
  natLt_1_32 := by decide
  shapeCasts_S8192x8192_S8192x64x128 := by decide
  reducesTo_S8192x64x128_S8192x128_d1 := by decide
  reducesTo_S8192x128_S_d0_1 := by decide
  dot_S8192x128_S128x128_S8192x128_1_0_0_1_n_n_wf := by decide
  dot_S8192x128_S128x8192_S8192x8192_1_0_0_1_n_n_wf := by decide

end Cert.Pre_ten_greatest_apart_three_per_lane

end
-- ==== Proof.Select.lean ====
/- The selection the kernel makes on one row, over the extended reals: the three greatest of each lane class kept by
   insertion, the ten rounds that count how many of each class are taken, and what the threshold and the degree are. -/
module

public import Idealize.ShloMosaic.PureOps.Ideal
public import Mathlib.Algebra.BigOperators.Fin
public import Mathlib.Order.Interval.Finset.Nat

@[expose] public section

noncomputable section

namespace Cert.Select

/-! ## Three greatest by insertion -/

/-- One insertion of a value into a decreasing triple: the least of the four is dropped. -/
def ins (s : EReal × EReal × EReal) (x : EReal) : EReal × EReal × EReal :=
  (max s.1 x, max s.2.1 (min s.1 x), max s.2.2 (min s.2.1 (min s.1 x)))

/-- The triple after inserting the first `n` values of a sequence into three `⊥`. -/
def top3 (x : ℕ → EReal) : ℕ → EReal × EReal × EReal
  | 0 => (⊥, ⊥, ⊥)
  | n + 1 => ins (top3 x n) (x n)

/-- How many of the first `n` values are at least `u`. -/
def cnt (x : ℕ → EReal) (n : ℕ) (u : EReal) : ℕ := ((Finset.range n).filter fun g => u ≤ x g).card

/-- No entry is counted among none. -/
theorem cnt_zero (x : ℕ → EReal) (u : EReal) : cnt x 0 u = 0 := rfl

/-- One more entry is counted where it reaches the bound. -/
theorem cnt_succ (x : ℕ → EReal) (n : ℕ) (u : EReal) : cnt x (n + 1) u = cnt x n u + if u ≤ x n then 1 else 0 := by
  unfold cnt
  rw [Finset.range_add_one, Finset.filter_insert]
  split
  · rw [Finset.card_insert_of_notMem (by simp)]
  · simp

/-- Above a level, the first, second and third component of the triple say there are at least one, two, three values. -/
theorem top3_ge (x : ℕ → EReal) (u : EReal) (hu : u ≠ ⊥) (n : ℕ) :
    (u ≤ (top3 x n).1 ↔ 1 ≤ cnt x n u) ∧ (u ≤ (top3 x n).2.1 ↔ 2 ≤ cnt x n u) ∧ (u ≤ (top3 x n).2.2 ↔ 3 ≤ cnt x n u) := by
  induction n with
  | zero => simp [top3, cnt_zero, hu]
  | succ n ih =>
    obtain ⟨h1, h2, h3⟩ := ih
    simp only [top3, ins, le_max_iff, le_min_iff, cnt_succ, h1, h2, h3]
    by_cases hx : u ≤ x n
    · simp only [hx, if_true, and_true, or_true, true_iff]; omega
    · simp only [hx, if_false, and_false, or_false]; omega

/-- A value where it reaches the level, and zero elsewhere. -/
def keep (u v : EReal) : EReal := if u ≤ v then v else 0

/-- Keeping the greater and the smaller of two values keeps both. -/
theorem keep_max_add_min (u a b : EReal) : keep u (max a b) + keep u (min a b) = keep u a + keep u b := by
  rcases le_total a b with h | h
  · rw [max_eq_right h, min_eq_left h, add_comm]
  · rw [max_eq_left h, min_eq_right h]

/-- The sum of the triple's components that reach a level is the sum of all the values that do, if there are at most three. -/
theorem top3_sum (x : ℕ → EReal) (u : EReal) (hu : u ≠ ⊥) (n : ℕ) (h : cnt x n u ≤ 3) :
    keep u (top3 x n).1 + keep u (top3 x n).2.1 + keep u (top3 x n).2.2 = ∑ g ∈ Finset.range n, keep u (x g) := by
  induction n with
  | zero =>
    have h0 : keep u ⊥ = 0 := if_neg fun h => hu (le_bot_iff.1 h)
    simp [top3, h0]
  | succ n ih =>
    have hc := cnt_succ x n u
    have hle : cnt x n u ≤ 3 := by rw [hc] at h; omega
    rw [Finset.sum_range_succ, ← ih hle]
    obtain ⟨h1, h2, h3⟩ := top3_ge x u hu n
    have hdrop : keep u (min (top3 x n).2.2 (min (top3 x n).2.1 (min (top3 x n).1 (x n)))) = 0 := by
      refine if_neg fun hh => ?_
      simp only [le_min_iff] at hh
      obtain ⟨a3, -, -, ax⟩ := hh
      rw [hc, if_pos ax] at h
      have := h3.1 a3
      omega
    simp only [top3, ins]
    generalize top3 x n = s at hdrop ⊢
    obtain ⟨a, b, c⟩ := s
    simp only at hdrop ⊢
    have e1 := keep_max_add_min u a (x n)
    have e2 := keep_max_add_min u b (min a (x n))
    have e3 := keep_max_add_min u c (min b (min a (x n)))
    rw [hdrop, add_zero] at e3
    rw [e3]
    calc keep u (max a (x n)) + keep u (max b (min a (x n))) + (keep u c + keep u (min b (min a (x n))))
        = keep u (max a (x n)) + (keep u (max b (min a (x n))) + keep u (min b (min a (x n)))) + keep u c := by ac_rfl
      _ = (keep u (max a (x n)) + keep u (min a (x n))) + keep u b + keep u c := by rw [e2]; ac_rfl
      _ = keep u a + keep u b + keep u c + keep u (x n) := by rw [e1]; ac_rfl

/-! ## The ten rounds -/

/-- What a class offers when `e` of its values are taken: the next of its three, or `⊥` when all three are. -/
def offer (s : EReal × EReal × EReal) (e : BitVec 32) : EReal :=
  if e = 0#32 then s.1 else if e = 1#32 then s.2.1 else if e = 2#32 then s.2.2 else ⊥

/-- Above a level, an offer reaches it exactly when one more value than is taken does, and fewer than three are taken. -/
theorem le_offer (x : ℕ → EReal) (u : EReal) (hu : u ≠ ⊥) (n e : ℕ) (he : e < 2 ^ 32) :
    u ≤ offer (top3 x n) (BitVec.ofNat 32 e) ↔ e ≤ 2 ∧ e + 1 ≤ cnt x n u := by
  obtain ⟨h1, h2, h3⟩ := top3_ge x u hu n
  have key : ∀ k : ℕ, k < 2 ^ 32 → (BitVec.ofNat 32 e = BitVec.ofNat 32 k ↔ e = k) := fun k hk => by
    constructor
    · intro h
      have := congrArg BitVec.toNat h
      rwa [BitVec.toNat_ofNat, BitVec.toNat_ofNat, Nat.mod_eq_of_lt he, Nat.mod_eq_of_lt hk] at this
    · rintro rfl; rfl
  unfold offer
  have k0 := key 0 (by norm_num)
  have k1 := key 1 (by norm_num)
  have k2 := key 2 (by norm_num)
  by_cases e0 : e = 0
  · rw [if_pos (k0.2 e0), h1]; omega
  · rw [if_neg (fun h => e0 (k0.1 h))]
    by_cases e1 : e = 1
    · rw [if_pos (k1.2 e1), h2]; omega
    · rw [if_neg (fun h => e1 (k1.1 h))]
      by_cases e2 : e = 2
      · rw [if_pos (k2.2 e2), h3]; omega
      · rw [if_neg (fun h => e2 (k2.1 h)), le_bot_iff]
        constructor
        · exact fun h => absurd h hu
        · omega

section Rounds
variable {L : Type} [Fintype L] [DecidableEq L]

/-- The greatest offer over the classes. -/
def best (s : L → EReal × EReal × EReal) (ex : L → BitVec 32) : EReal := Finset.univ.sup fun l => offer (s l) (ex l)

/-- One round: every class whose offer is the greatest has one more value taken. -/
def round (s : L → EReal × EReal × EReal) (ex : L → BitVec 32) (l : L) : BitVec 32 :=
  ex l + if offer (s l) (ex l) = best s ex then 1#32 else 0#32

/-- How many are taken after `k` rounds. -/
def taken (s : L → EReal × EReal × EReal) : ℕ → L → BitVec 32
  | 0 => fun _ => 0#32
  | k + 1 => round s (taken s k)

/-- How many of the first `k` picks are of class `l`. -/
def among (lane : ℕ → L) (k : ℕ) (l : L) : ℕ := ((Finset.range k).filter fun j => lane j = l).card

/-- One more of the list is counted where it lies in the lane. -/
theorem among_succ (lane : ℕ → L) (k : ℕ) (l : L) : among lane (k + 1) l = among lane k l + if lane k = l then 1 else 0 := by
  unfold among
  rw [Finset.range_add_one, Finset.filter_insert]
  split
  · rw [Finset.card_insert_of_notMem (by simp)]
  · simp

/-- No more of a lane are listed than are listed. -/
theorem among_le (lane : ℕ → L) (k : ℕ) (l : L) : among lane k l ≤ k :=
  (Finset.card_filter_le _ _).trans (Finset.card_range k).le

/-- A longer list has no fewer of a lane. -/
theorem among_mono (lane : ℕ → L) {j k : ℕ} (h : j ≤ k) (l : L) : among lane j l ≤ among lane k l :=
  Finset.card_le_card (Finset.filter_subset_filter _ (Finset.range_subset_range.2 h))

/-- The picks of one row: `V k` the `k`-th greatest value and `lane k` its class, such that the counts of values at each
    pick and above it are those of the picks, and no class has more than three. -/
structure Picked (x : L → ℕ → EReal) (n K : ℕ) (V : ℕ → EReal) (lane : ℕ → L) : Prop where
  ne_bot : ∀ k < K, V k ≠ ⊥
  at_pick : ∀ k < K, ∀ l, cnt (x l) n (V k) = among lane (k + 1) l
  above : ∀ k < K, ∀ l, ∀ u, V k < u → cnt (x l) n u ≤ among lane k l
  three : ∀ l, among lane K l ≤ 3

variable {x : L → ℕ → EReal} {n K : ℕ} {V : ℕ → EReal} {lane : ℕ → L}

/-- With the first `k` picks taken, an offer is at most the `k`-th pick, and equals it only in its class. -/
theorem Picked.offer_eq_iff (h : Picked x n K V lane) {k : ℕ} (hk : k < K) (l : L) :
    offer (top3 (x l) n) (BitVec.ofNat 32 (among lane k l)) ≤ V k ∧
      (offer (top3 (x l) n) (BitVec.ofNat 32 (among lane k l)) = V k ↔ lane k = l) := by
  have h3 : among lane k l ≤ 3 := (among_mono lane hk.le l).trans (h.three l)
  have h4 : among lane (k + 1) l ≤ 3 := (among_mono lane hk l).trans (h.three l)
  have hsucc := among_succ lane k l
  have hat := h.at_pick k hk l
  have hle := le_offer (x l) (V k) (h.ne_bot k hk) n (among lane k l) (by omega)
  have hub : offer (top3 (x l) n) (BitVec.ofNat 32 (among lane k l)) ≤ V k := by
    by_contra hc
    rw [not_le] at hc
    have := (le_offer (x l) _ (ne_bot_of_gt hc) n (among lane k l) (by omega)).1 le_rfl
    have := h.above k hk l _ hc
    omega
  refine ⟨hub, fun he => ?_, fun hl => le_antisymm hub (hle.2 ?_)⟩
  · have := hle.1 he.ge
    by_contra hne
    rw [if_neg hne] at hsucc
    omega
  · rw [if_pos hl] at hsucc
    omega

/-- With the first `k` picks taken, the greatest offer is the `k`-th pick. -/
theorem Picked.best_eq (h : Picked x n K V lane) {k : ℕ} (hk : k < K) :
    best (fun l => top3 (x l) n) (fun l => BitVec.ofNat 32 (among lane k l)) = V k :=
  le_antisymm (Finset.sup_le fun l _ => (h.offer_eq_iff hk l).1)
    (((h.offer_eq_iff hk (lane k)).2.2 rfl).ge.trans
      (Finset.le_sup (f := fun l => offer (top3 (x l) n) (BitVec.ofNat 32 (among lane k l))) (Finset.mem_univ (lane k))))

/-- After `k` rounds each class has exactly its picks among the first `k` taken. -/
theorem Picked.taken_eq (h : Picked x n K V lane) (k : ℕ) (hk : k ≤ K) :
    taken (fun l => top3 (x l) n) k = fun l => BitVec.ofNat 32 (among lane k l) := by
  induction k with
  | zero => rfl
  | succ k ih =>
    funext l
    rw [taken, ih (by omega), round, h.best_eq hk, among_succ, BitVec.ofNat_add]
    congr 1
    by_cases hl : lane k = l
    · rw [if_pos ((h.offer_eq_iff hk l).2.2 hl), if_pos hl]
    · rw [if_neg (fun e => hl ((h.offer_eq_iff hk l).2.1 e)), if_neg hl]

/-- The greatest offer of the round after `k` is the `k`-th pick. -/
theorem Picked.best_taken (h : Picked x n K V lane) {k : ℕ} (hk : k < K) :
    best (fun l => top3 (x l) n) (taken (fun l => top3 (x l) n) k) = V k := by
  rw [h.taken_eq k hk.le]; exact h.best_eq hk

/-- The values kept at the last pick, summed over the classes' triples, are the values kept summed over all the values. -/
theorem Picked.degree (h : Picked x n K V lane) {k : ℕ} (hk : k + 1 = K) :
    ∑ l, (keep (V k) (top3 (x l) n).1 + keep (V k) (top3 (x l) n).2.1 + keep (V k) (top3 (x l) n).2.2)
      = ∑ l, ∑ g ∈ Finset.range n, keep (V k) (x l g) :=
  Finset.sum_congr rfl fun l _ => top3_sum (x l) (V k) (h.ne_bot k (by omega)) n
    (by rw [h.at_pick k (by omega) l, hk]; exact h.three l)

end Rounds

/-! ## A row of 8192 values in 64 groups of 128 lanes -/

/-- Lane `l`'s value in group `g`: the row's value at column `128 g + l`. -/
def laneVal (r : Fin 8192 → EReal) (l : Fin 128) (g : ℕ) : EReal := r (Fin.ofNat 8192 (128 * g + l.val))

/-- The class of a column: its remainder modulo 128. -/
def laneOf (c : Fin 8192) : Fin 128 := ⟨c.val % 128, Nat.mod_lt _ (by norm_num)⟩

/-- `idx` lists the columns of a row's ten greatest values, strictly decreasing and strictly above the rest, at most three to a class. -/
structure Tops (r : Fin 8192 → EReal) (idx : ℕ → Fin 8192) : Prop where
  anti : ∀ j k, j < k → k < 10 → r (idx k) < r (idx j)
  rest : ∀ c, (∀ k < 10, idx k ≠ c) → r c < r (idx 9)
  three : ∀ l, among (fun k => laneOf (idx k)) 10 l ≤ 3

variable {r : Fin 8192 → EReal} {idx : ℕ → Fin 8192}

/-- A column reaches the value of rank `k` exactly if it is one of the list up to `k`. -/
theorem Tops.le_iff (h : Tops r idx) {k : ℕ} (hk : k < 10) (c : Fin 8192) : r (idx k) ≤ r c ↔ ∃ j, j ≤ k ∧ idx j = c := by
  constructor
  · intro hle
    by_contra hc
    push Not at hc
    by_cases hex : ∃ j < 10, idx j = c
    · obtain ⟨j, hj, rfl⟩ := hex
      have hkj : k < j := by
        by_contra hn
        exact hc j (by omega) rfl
      exact absurd hle (not_le.2 (h.anti k j hkj hj))
    · push Not at hex
      have h9 : r (idx 9) ≤ r (idx k) := by
        rcases Nat.lt_or_ge k 9 with h' | h'
        · exact (h.anti k 9 h' (by norm_num)).le
        · rw [show k = 9 by omega]
      exact absurd (h9.trans hle) (not_le.2 (h.rest c hex))
  · rintro ⟨j, hj, rfl⟩
    rcases Nat.lt_or_ge j k with h' | h'
    · exact (h.anti j k h' hk).le
    · rw [show j = k by omega]

/-- The ten listed columns are distinct. -/
theorem Tops.inj (h : Tops r idx) {j k : ℕ} (hj : j < 10) (hk : k < 10) (e : idx j = idx k) : j = k := by
  rcases lt_trichotomy j k with h' | h' | h'
  · exact absurd (h.anti j k h' hk) (by rw [e]; exact lt_irrefl _)
  · exact h'
  · exact absurd (h.anti k j h' hj) (by rw [e]; exact lt_irrefl _)

/-- The count in a class of the values whose column is one of the first `m` listed is the number of those of that class. -/
theorem cnt_eq_among {m : ℕ} (hm : ∀ j < m, ∀ k < m, idx j = idx k → j = k) (u : EReal)
    (hu : ∀ c, u ≤ r c ↔ ∃ j, j < m ∧ idx j = c) (l : Fin 128) :
    cnt (laneVal r l) 64 u = among (fun k => laneOf (idx k)) m l := by
  unfold cnt among
  symm
  refine Finset.card_bij (fun j _ => (idx j).val / 128) ?_ ?_ ?_
  · intro j hj
    simp only [Finset.mem_filter, Finset.mem_range] at hj ⊢
    have hl : (idx j).val % 128 = l.val := congrArg Fin.val hj.2
    refine ⟨by have := (idx j).isLt; omega, (hu _).2 ⟨j, hj.1, Fin.ext ?_⟩⟩
    have := (idx j).isLt
    show (idx j).val = (128 * ((idx j).val / 128) + l.val) % 8192
    omega
  · intro j hj k hk e
    simp only [Finset.mem_filter, Finset.mem_range] at hj hk
    have hl : (idx j).val % 128 = l.val := congrArg Fin.val hj.2
    have hl' : (idx k).val % 128 = l.val := congrArg Fin.val hk.2
    exact hm j hj.1 k hk.1 (Fin.ext (by omega))
  · intro g hg
    simp only [Finset.mem_filter, Finset.mem_range] at hg
    obtain ⟨j, hj, e⟩ := (hu _).1 hg.2
    have e' : (idx j).val = (128 * g + l.val) % 8192 := congrArg Fin.val e
    have := l.isLt
    refine ⟨j, Finset.mem_filter.2 ⟨Finset.mem_range.2 hj, Fin.ext ?_⟩, ?_⟩
    · show (idx j).val % 128 = l.val
      omega
    · show (idx j).val / 128 = g
      omega

/-- The listed columns are the picks of the row's lane classes. -/
theorem Tops.picked (h : Tops r idx) : Picked (laneVal r) 64 10 (fun k => r (idx k)) (fun k => laneOf (idx k)) where
  ne_bot k hk := by
    have hex : ∃ c, ∀ j < 10, idx j ≠ c := by
      by_contra hc
      push Not at hc
      have hsub : (Finset.univ : Finset (Fin 8192)) ⊆ (Finset.range 10).image idx := fun c _ => by
        obtain ⟨j, hj, e⟩ := hc c
        exact Finset.mem_image.2 ⟨j, Finset.mem_range.2 hj, e⟩
      have := (Finset.card_le_card hsub).trans Finset.card_image_le
      simp at this
    obtain ⟨c, hc⟩ := hex
    have h9 : r (idx 9) ≤ r (idx k) := (h.le_iff (by norm_num) _).2 ⟨k, by omega, rfl⟩
    exact ne_bot_of_gt ((h.rest c hc).trans_le h9)
  at_pick k hk l := cnt_eq_among (fun i hi j hj => h.inj (by omega) (by omega)) _
    (fun c => (h.le_iff hk c).trans (by simp only [Nat.lt_succ_iff])) l
  above k hk l u hu := by
    have hsub : cnt (laneVal r l) 64 u ≤ among (fun k => laneOf (idx k)) k l := by
      unfold cnt among
      refine Finset.card_le_card_of_surjOn (fun j => (idx j).val / 128) ?_
      intro g hg
      simp only [Finset.coe_filter, Finset.mem_range, Set.mem_setOf_eq] at hg
      obtain ⟨j, hj, e⟩ := (h.le_iff hk _).1 (hu.le.trans hg.2)
      have hne : j ≠ k := fun hh => by
        subst hh
        exact absurd hg.2 (not_le.2 (by unfold laneVal; rw [← e]; exact hu))
      have e' : (idx j).val = (128 * g + l.val) % 8192 := congrArg Fin.val e
      have := l.isLt
      refine ⟨j, ?_, ?_⟩
      · simp only [Finset.coe_filter, Finset.mem_range, Set.mem_setOf_eq]
        refine ⟨by omega, Fin.ext ?_⟩
        show (idx j).val % 128 = l.val
        omega
      · show (idx j).val / 128 = g
        omega
    exact hsub
  three := h.three

/-- The row's triples: lane `l`'s three greatest. -/
def triple (r : Fin 8192 → EReal) (l : Fin 128) : EReal × EReal × EReal := top3 (laneVal r l) 64

/-- The threshold the ten rounds end at. -/
def thresh (r : Fin 8192 → EReal) : EReal := best (triple r) (taken (triple r) 9)

/-- The degree the kernel sums from the triples. -/
def degree (r : Fin 8192 → EReal) : EReal :=
  ∑ l, (keep (thresh r) (triple r l).1 + keep (thresh r) (triple r l).2.1 + keep (thresh r) (triple r l).2.2)

/-- The threshold that the ten rounds find is the tenth greatest value. -/
theorem Tops.thresh_eq (h : Tops r idx) : thresh r = r (idx 9) := h.picked.best_taken (by norm_num)

/-- A sum over the columns at or above the threshold is the sum over the ten listed columns. -/
theorem Tops.sum_keep (h : Tops r idx) (f : Fin 8192 → EReal) :
    ∑ c, (if thresh r ≤ r c then f c else 0) = ∑ k ∈ Finset.range 10, f (idx k) := by
  rw [h.thresh_eq, ← Finset.sum_filter]
  symm
  refine Finset.sum_bij (fun k _ => idx k) ?_ ?_ ?_ ?_
  · intro k hk
    rw [Finset.mem_range] at hk
    exact Finset.mem_filter.2 ⟨Finset.mem_univ _, (h.le_iff (by norm_num) _).2 ⟨k, by omega, rfl⟩⟩
  · intro j hj k hk e
    exact h.inj (Finset.mem_range.1 hj) (Finset.mem_range.1 hk) e
  · intro c hc
    obtain ⟨j, hj, e⟩ := (h.le_iff (by norm_num) c).1 (Finset.mem_filter.1 hc).2
    exact ⟨j, Finset.mem_range.2 (by omega), e⟩
  · intro k _; rfl

/-- A sum over the lanes and the groups is the sum over the columns. -/
theorem sum_lanes (f : Fin 8192 → EReal) :
    ∑ l : Fin 128, ∑ g ∈ Finset.range 64, f (Fin.ofNat 8192 (128 * g + l.val)) = ∑ c, f c := by
  rw [← Finset.sum_product']
  refine Finset.sum_bij (fun p _ => Fin.ofNat 8192 (128 * p.2 + p.1.val)) ?_ ?_ ?_ ?_
  · intro p _; exact Finset.mem_univ _
  · rintro ⟨l, g⟩ hp ⟨l', g'⟩ hp' e
    simp only [Finset.mem_product, Finset.mem_range] at hp hp'
    have e' : (128 * g + l.val) % 8192 = (128 * g' + l'.val) % 8192 := congrArg Fin.val e
    have := l.isLt
    have := l'.isLt
    exact Prod.ext (Fin.ext (by simp only; omega)) (by simp only; omega)
  · intro c _
    have := c.isLt
    refine ⟨(laneOf c, c.val / 128), Finset.mem_product.2 ⟨Finset.mem_univ _, Finset.mem_range.2 (by simp only; omega)⟩, Fin.ext ?_⟩
    show (128 * (c.val / 128) + c.val % 128) % 8192 = c.val
    omega
  · intro p _; rfl

/-- The degree is the sum of the ten greatest values. -/
theorem Tops.degree_eq (h : Tops r idx) : degree r = ∑ k ∈ Finset.range 10, r (idx k) := by
  rw [← h.sum_keep r]
  unfold degree
  rw [h.thresh_eq]
  refine (h.picked.degree (k := 9) (by norm_num)).trans ?_
  exact sum_lanes fun c => keep (r (idx 9)) (r c)

end Cert.Select
end
-- ==== Proof.Order.lean ====
/- A row sorted from its greatest element down: what `chlo.top_k` returns of it, and that ten elements strictly apart
   from each other and from the eleventh, at most three of them in one lane class, are the selection of `Select`. -/
module

public import proofs.«01_k».proof.Proof.Select
public import Idealize.ShloMosaic.Lib.SortFacts
public import Idealize.ShloMosaic.Lib.Pointwise.Index

@[expose] public section

noncomputable section

namespace Cert.Select

open Idealize.ShloMosaic

/-- The shape of a matrix of `a` rows and `b` columns. -/
abbrev mat (a b : ℕ) : Shape := ⟨2, ![a, b]⟩

/-- The column of the `k`-th greatest element of row `i` of the matrix, counted from zero. -/
def nth (x : FVec Ideal (mat 8192 8192) .f32) (i : Fin 8192) (k : ℕ) : Fin 8192 :=
  sortedFrom (fun a b => FloatOps.cmpfTotal (F := Ideal) .gt (x (ix2 i a)) (x (ix2 i b)) == 1#1) ⟨k % 8192, Nat.mod_lt _ (by norm_num)⟩

/-- A rank below 8192 is its own remainder. -/
theorem rank_eq {k : ℕ} (hk : k < 8192) : (⟨k % 8192, Nat.mod_lt _ (by norm_num)⟩ : Fin 8192) = ⟨k, hk⟩ :=
  Fin.ext (Nat.mod_eq_of_lt hk)

/-- The total order's "greater" is the strict order of the extended reals. -/
theorem gt_iff (a b : EReal) : (FloatOps.cmpfTotal (F := Ideal) (φ := .f32) .gt a b == 1#1) = decide (b < a) := by
  show (BitVec.ofBool (decide (b < a)) == 1#1) = _
  cases decide (b < a) <;> rfl

/-- Every column is the column of some rank below 8192. -/
theorem nth_surj (x : FVec Ideal (mat 8192 8192) .f32) (i c : Fin 8192) : ∃ k, k < 8192 ∧ nth x i k = c := by
  obtain ⟨k, hk⟩ := sortedFrom_surjective
    (fun a b => FloatOps.cmpfTotal (F := Ideal) .gt (x (ix2 i a)) (x (ix2 i b)) == 1#1) c
  refine ⟨k.val, k.isLt, ?_⟩
  unfold nth
  rw [← hk, rank_eq k.isLt]

/-- The row falls along the ranks. -/
theorem nth_anti (x : FVec Ideal (mat 8192 8192) .f32) (i : Fin 8192) {j k : ℕ} (hjk : j ≤ k) (hk : k < 8192) :
    x (ix2 i (nth x i k)) ≤ x (ix2 i (nth x i j)) := by
  rcases Nat.lt_or_eq_of_le hjk with h | rfl
  · have := sortedFrom_noInversion
      (fun a b => FloatOps.cmpfTotal (F := Ideal) .gt (x (ix2 i a)) (x (ix2 i b)) == 1#1)
      (fun a b => FloatOps.cmpfTotal (F := Ideal) .gt (x (ix2 i a)) (x (ix2 i b)) == 1#1)
      (fun a b h => by rw [gt_iff] at *; simp only [decide_eq_true_eq, decide_eq_false_iff_not, not_lt] at *; exact h.le)
      (fun a b h => h)
      (fun a b c h h' => by
        rw [gt_iff] at *; simp only [decide_eq_false_iff_not, not_lt] at *; exact h.trans h')
      ⟨j % 8192, Nat.mod_lt _ (by norm_num)⟩ ⟨k % 8192, Nat.mod_lt _ (by norm_num)⟩
      (by rw [Fin.mk_lt_mk, Nat.mod_eq_of_lt hk, Nat.mod_eq_of_lt (h.trans hk)]; exact h)
    rw [gt_iff] at this
    simp only [decide_eq_false_iff_not, not_lt] at this
    exact this
  · exact le_rfl

/-- The index at column `k` of a row, of the shape cut to `n` columns, seen in the whole shape. -/
theorem along_ix2 (i c : Fin 8192) (d : Fin 8192) :
    (Shape.Idx.along (s := mat 8192 8192) (ix2 i c) 1 d : (mat 8192 8192).Idx) = ix2 i d := by
  funext a
  match a with
  | ⟨0, _⟩ => rfl
  | ⟨1, _⟩ => rfl

/-- The index of the whole shape that the slice at offset zero reads at `(i, k)`. -/
theorem cut_ix2 {n : ℕ} (i : Fin 8192) (k : Fin n) (h : (mat 8192 8192).Slices (fun _ => 0) (mat 8192 n)) (hk : k.val < 8192) :
    (fun a => ⟨0 + ((ix2 i k : (mat 8192 n).Idx) (a.cast h.1.symm)).val,
        Nat.lt_of_lt_of_le (Nat.add_lt_add_left (Fin.isLt _) _) (h.2 a)⟩ : (mat 8192 8192).Idx) = ix2 i (⟨k.val, hk⟩ : Fin 8192) := by
  funext a
  apply Fin.ext
  match a with
  | ⟨0, _⟩ => exact Nat.zero_add _
  | ⟨1, _⟩ => exact Nat.zero_add _

/-- The column the sort of row `i` puts at place `k`, the row read through indices of the matrix. -/
theorem sorted_eq (x : FVec Ideal (mat 8192 8192) .f32) (i c : Fin 8192) (k : ℕ) (hk : k < 8192) :
    sortedFrom (fun a b : Fin 8192 => FloatOps.cmpfTotal (F := Ideal) .gt
        (x (Shape.Idx.along (s := mat 8192 8192) (ix2 i c) 1 a)) (x (Shape.Idx.along (s := mat 8192 8192) (ix2 i c) 1 b)) == 1#1)
      ⟨k, hk⟩ = nth x i k := by
  unfold nth
  rw [rank_eq hk]
  refine congrFun (congrArg _ ?_) _
  funext a b
  rw [along_ix2, along_ix2]

/-- The `k`-th value of the top-k of row `i` is the row's element at the column of rank `k`. -/
theorem topK_value {n : ℕ} (x : FVec Ideal (mat 8192 8192) .f32) (h : (mat 8192 8192).Slices (fun _ => 0) (mat 8192 n))
    (i : Fin 8192) (k : Fin n) (hk : k.val < 8192) :
    (Host.topK (mat 8192 n) 1 (FloatOps.cmpfTotal (F := Ideal) .gt) x h).1 (ix2 i k) = x (ix2 i (nth x i k.val)) := by
  unfold Host.topK extractStridedSlice
  dsimp only
  rw [cut_ix2 i k h hk]
  unfold Host.sort2
  rw [dif_pos (show 1 < (mat 8192 8192).rank from Nat.one_lt_two)]
  dsimp only
  exact (congrArg x (along_ix2 i _ _)).trans (congrArg (fun c => x (ix2 i c)) (sorted_eq x i ⟨k.val, hk⟩ k.val hk))

/-- The `k`-th index of the top-k of row `i` is the word of the column of rank `k`. -/
theorem topK_index {n : ℕ} (x : FVec Ideal (mat 8192 8192) .f32) (h : (mat 8192 8192).Slices (fun _ => 0) (mat 8192 n))
    (i : Fin 8192) (k : Fin n) (hk : k.val < 8192) :
    (Host.topK (mat 8192 n) 1 (FloatOps.cmpfTotal (F := Ideal) .gt) x h).2 (ix2 i k) = BitVec.ofNat 32 (nth x i k.val).val := by
  unfold Host.topK extractStridedSlice
  dsimp only
  rw [cut_ix2 i k h hk]
  unfold Host.sort2
  rw [dif_pos (show 1 < (mat 8192 8192).rank from Nat.one_lt_two)]
  dsimp only
  rw [dif_pos (show 1 < (mat 8192 8192).rank from Nat.one_lt_two)]
  refine congrArg (fun c : Fin 8192 => BitVec.ofNat 32 c.val) (?_ : _ = nth x i k.val)
  exact (congrFun (along_ix2 i ⟨k.val, hk⟩ _) 1).trans (sorted_eq x i ⟨k.val, hk⟩ k.val hk)

/-- A row whose eleven greatest are strictly apart, with at most three columns of each lane class at or above the
    tenth, has its ten greatest selected by rank. -/
theorem tops_of (x : FVec Ideal (mat 8192 8192) .f32) (i : Fin 8192)
    (ha : ∀ k < 10, x (ix2 i (nth x i (k + 1))) < x (ix2 i (nth x i k)))
    (hc : ∀ l : Fin 128, cnt (laneVal (fun c => x (ix2 i c)) l) 64 (x (ix2 i (nth x i 9))) ≤ 3) :
    Tops (fun c => x (ix2 i c)) (nth x i) := by
  have anti : ∀ j k, j < k → k < 10 → x (ix2 i (nth x i k)) < x (ix2 i (nth x i j)) := fun j k hjk hk =>
    (nth_anti x i (show j + 1 ≤ k from hjk) (by omega)).trans_lt (ha j (by omega))
  have rest : ∀ c, (∀ k < 10, nth x i k ≠ c) → x (ix2 i c) < x (ix2 i (nth x i 9)) := fun c h => by
    obtain ⟨m, hm, rfl⟩ := nth_surj x i c
    have : 10 ≤ m := by
      by_contra h'
      exact h m (by omega) rfl
    exact (nth_anti x i this hm).trans_lt (ha 9 (by norm_num))
  refine ⟨anti, rest, fun l => ?_⟩
  rw [← cnt_eq_among (r := fun c => x (ix2 i c)) (m := 10) ?_ (x (ix2 i (nth x i 9))) ?_ l]
  · exact hc l
  · intro j hj k hk e
    rcases lt_trichotomy j k with h | h | h
    · exact absurd (anti j k h hk) (by rw [e]; exact lt_irrefl _)
    · exact h
    · exact absurd (anti k j h hj) (by rw [e]; exact lt_irrefl _)
  · intro c
    constructor
    · intro h
      by_contra h'
      push Not at h'
      exact absurd (rest c h') (not_lt.2 h)
    · rintro ⟨j, hj, rfl⟩
      exact nth_anti x i (by omega) (by norm_num)

end Cert.Select

end
-- ==== Proof.Edges.lean ====
/- The host operations of the edge list read at an index: where a row of updates lands, the accumulating scatters as sums
   over the ten edges of a node, the scatter that sets, and the row an index word takes. -/
module

public import proofs.«01_k».proof.Proof.Order
public import Idealize.ShloMosaic.Lib.Routing.OpsSet
public import Idealize.ShloMosaic.Lib.Routing.OpsPair

@[expose] public section

noncomputable section

namespace Cert.Edges

open Idealize.ShloMosaic Cert.Select

/-- The shape of a vector of `a` entries. -/
abbrev vec (a : ℕ) : Shape := ⟨1, ![a]⟩

variable {R C E B : ℕ}

/-! ## Where an update lands -/

/-- The dimension numbers of a scatter of `E` rows of `B` into a matrix of `R` rows, one index word each. -/
def rowDims (wf : ScatterDims.WF (mat R B) (mat E 1) (mat E B) [1] [0] [0] 1) : ScatterDims (mat R B) (mat E 1) (mat E B) where
  updateWindowDims := [1]
  insertedWindowDims := [0]
  scatterDimsToOperandDims := [0]
  indexVectorDim := 1
  wf := wf

/-- The dimension numbers of a scatter of `E` scalars into a vector of `R`, one index word each. -/
def vecDims (wf : ScatterDims.WF (vec R) (mat E 1) (vec E) [] [0] [0] 1) : ScatterDims (vec R) (mat E 1) (vec E) where
  updateWindowDims := []
  insertedWindowDims := [0]
  scatterDimsToOperandDims := [0]
  indexVectorDim := 1
  wf := wf

/-- The dimension numbers of a scatter of `E` scalars into a matrix, two index words each. -/
def pairDims (wf : ScatterDims.WF (mat R C) (mat E 2) (vec E) [] [0, 1] [0, 1] 1) : ScatterDims (mat R C) (mat E 2) (vec E) where
  updateWindowDims := []
  insertedWindowDims := [0, 1]
  scatterDimsToOperandDims := [0, 1]
  indexVectorDim := 1
  wf := wf

/-- Entry `(e, f)` of the updates lands at `(r, g)` exactly when row `e`'s word is `r` and `f` is `g`. -/
theorem row_lands (wf : ScatterDims.WF (mat R B) (mat E 1) (mat E B) [1] [0] [0] 1) (idx : IVec (mat E 1) 32)
    (e : Fin E) (f g : Fin B) (r : Fin R) :
    (rowDims wf).resultIdx? (ix2 e f) idx = some (ix2 r g) ↔ (idx (ix2 e 0)).toInt = (r.val : Int) ∧ f = g := by
  have hs : (rowDims wf).start (ix2 e f) idx 0 = (idx (ix2 e 0)).toInt := by
    unfold ScatterDims.start
    rw [dif_pos (show (0 : Fin 2) ∈ (rowDims wf).scatterDimsToOperandDims from List.mem_singleton.2 rfl)]
    refine congrArg (fun j => (idx j).toInt) (funext fun a => ?_)
    match a with
    | ⟨0, _⟩ => rfl
    | ⟨1, _⟩ => rfl
  rw [Routing.resultIdx?_eq_some]
  constructor
  · intro h
    have h0 := h 0
    have h1 := h 1
    rw [hs] at h0
    have w0 : (rowDims wf).window (ix2 e f) 0 = 0 := rfl
    have w1 : (rowDims wf).window (ix2 e f) 1 = f.val := rfl
    have s1 : (rowDims wf).start (ix2 e f) idx 1 = 0 := rfl
    rw [w0] at h0
    rw [w1, s1] at h1
    have h1' : (0 : Int) + (f.val : Int) = (g.val : Int) := h1
    exact ⟨by simpa using h0, Fin.ext (by omega)⟩
  · rintro ⟨h, rfl⟩ a
    match a with
    | ⟨0, _⟩ =>
      show (rowDims wf).start (ix2 e f) idx 0 + (0 : Int) = (r.val : Int)
      rw [hs, h, add_zero]
    | ⟨1, _⟩ => exact Int.zero_add _

/-- Update `e` lands at entry `r` exactly when its word is `r`. -/
theorem vec_lands (wf : ScatterDims.WF (vec R) (mat E 1) (vec E) [] [0] [0] 1) (idx : IVec (mat E 1) 32) (e : Fin E) (r : Fin R) :
    (vecDims wf).resultIdx? (ix1 e) idx = some (ix1 r) ↔ (idx (ix2 e 0)).toInt = (r.val : Int) := by
  have hs : (vecDims wf).start (ix1 e) idx 0 = (idx (ix2 e 0)).toInt := by
    unfold ScatterDims.start
    rw [dif_pos (show (0 : Fin 1) ∈ (vecDims wf).scatterDimsToOperandDims from List.mem_singleton.2 rfl)]
    refine congrArg (fun j => (idx j).toInt) (funext fun a => ?_)
    match a with
    | ⟨0, _⟩ => rfl
    | ⟨1, _⟩ => rfl
  rw [Routing.resultIdx?_eq_some]
  constructor
  · intro h
    have h0 : (vecDims wf).start (ix1 e) idx 0 + (0 : Int) = (r.val : Int) := h 0
    rwa [hs, add_zero] at h0
  · intro h a
    match a with
    | ⟨0, _⟩ =>
      show (vecDims wf).start (ix1 e) idx 0 + (0 : Int) = (r.val : Int)
      rw [hs, h, add_zero]

/-- Update `e` lands at `(r, c)` exactly when its two words are `r` and `c`. -/
theorem pair_lands (wf : ScatterDims.WF (mat R C) (mat E 2) (vec E) [] [0, 1] [0, 1] 1) (idx : IVec (mat E 2) 32) (e : Fin E)
    (r : Fin R) (c : Fin C) :
    (pairDims wf).resultIdx? (ix1 e) idx = some (ix2 r c)
      ↔ (idx (ix2 e 0)).toInt = (r.val : Int) ∧ (idx (ix2 e 1)).toInt = (c.val : Int) := by
  have hs : ∀ q : Fin 2, (pairDims wf).start (ix1 e) idx q = (idx (ix2 e q)).toInt := fun q => by
    unfold ScatterDims.start
    rw [dif_pos (show q ∈ (pairDims wf).scatterDimsToOperandDims from by
      match q with
      | 0 => exact List.mem_cons_self
      | 1 => exact List.mem_cons_of_mem _ List.mem_cons_self)]
    refine congrArg (fun j => (idx j).toInt) (funext fun a => ?_)
    match a, q with
    | ⟨0, _⟩, 0 => rfl
    | ⟨0, _⟩, 1 => rfl
    | ⟨1, _⟩, 0 => rfl
    | ⟨1, _⟩, 1 => rfl
  rw [Routing.resultIdx?_eq_some]
  constructor
  · intro h
    have h0 : (pairDims wf).start (ix1 e) idx 0 + (0 : Int) = (r.val : Int) := h 0
    have h1 : (pairDims wf).start (ix1 e) idx 1 + (0 : Int) = (c.val : Int) := h 1
    rw [hs, add_zero] at h0 h1
    exact ⟨h0, h1⟩
  · rintro ⟨h0, h1⟩ a
    match a with
    | ⟨0, _⟩ =>
      show (pairDims wf).start (ix1 e) idx 0 + (0 : Int) = (r.val : Int)
      rw [hs, h0, add_zero]
    | ⟨1, _⟩ =>
      show (pairDims wf).start (ix1 e) idx 1 + (0 : Int) = (c.val : Int)
      rw [hs, h1, add_zero]

/-! ## The accumulating scatters as sums over the updates -/

/-- The accumulating scatter of rows, read at `(r, g)`: the operand's entry plus entry `g` of every row whose word is
    `r`. -/
theorem scatterAdd_row (wf : ScatterDims.WF (mat R B) (mat E 1) (mat E B) [1] [0] [0] 1) (x : FVec Ideal (mat R B) .f32)
    (idx : IVec (mat E 1) 32) (upd : FVec Ideal (mat E B) .f32) (r : Fin R) (g : Fin B) :
    Host.scatterAdd (rowDims wf) x idx upd (ix2 r g)
      = x (ix2 r g) + ∑ e : Fin E, if (idx (ix2 e 0)).toInt = (r.val : Int) then (upd (ix2 e g) : EReal) else 0 := by
  show (x (ix2 r g) : EReal) + ∑ j ∈ Finset.univ.filter (fun j => (rowDims wf).resultIdx? j idx = some (ix2 r g)), (upd j : EReal) = _
  rw [Finset.sum_filter, sum_idx2]
  refine congrArg _ (Finset.sum_congr rfl fun e _ => ?_)
  simp only [row_lands]
  by_cases h : (idx (ix2 e 0)).toInt = (r.val : Int)
  · simp [h]
  · simp [h]

/-- The accumulating scatter of scalars, read at `r`: the operand's entry plus every update whose word is `r`. -/
theorem scatterAdd_vec (wf : ScatterDims.WF (vec R) (mat E 1) (vec E) [] [0] [0] 1) (x : FVec Ideal (vec R) .f32)
    (idx : IVec (mat E 1) 32) (upd : FVec Ideal (vec E) .f32) (r : Fin R) :
    Host.scatterAdd (vecDims wf) x idx upd (ix1 r)
      = x (ix1 r) + ∑ e : Fin E, if (idx (ix2 e 0)).toInt = (r.val : Int) then (upd (ix1 e) : EReal) else 0 := by
  show (x (ix1 r) : EReal) + ∑ j ∈ Finset.univ.filter (fun j => (vecDims wf).resultIdx? j idx = some (ix1 r)), (upd j : EReal) = _
  rw [Finset.sum_filter, sum_idx1]
  refine congrArg _ (Finset.sum_congr rfl fun e _ => ?_)
  simp only [vec_lands]

/-! ## The ten edges of a node -/

/-- Edge `k` of node `i`. -/
def edge (i : Fin 8192) (k : Fin 10) : Fin 81920 := ⟨10 * i.val + k.val, by omega⟩

/-- A sum over the edges of one node, picked out of all edges by the node's number. -/
theorem sum_edges (i : Fin 8192) (p : Fin 81920 → Prop) [DecidablePred p] (hp : ∀ e, p e ↔ e.val / 10 = i.val)
    (u : Fin 81920 → EReal) : ∑ e, (if p e then u e else 0) = ∑ k : Fin 10, u (edge i k) := by
  rw [← Finset.sum_filter]
  refine Finset.sum_bij' (fun e _ => (⟨e.val % 10, Nat.mod_lt _ (by norm_num)⟩ : Fin 10)) (fun k _ => edge i k)
    (fun _ _ => Finset.mem_univ _) (fun k _ => ?_) (fun e he => ?_) (fun k _ => ?_) (fun e he => ?_)
  · rw [Finset.mem_filter, hp]
    refine ⟨Finset.mem_univ _, ?_⟩
    show (10 * i.val + k.val) / 10 = i.val
    omega
  · rw [Finset.mem_filter, hp] at he
    exact Fin.ext (by show 10 * i.val + e.val % 10 = e.val; omega)
  · exact Fin.ext (by show (10 * i.val + k.val) % 10 = k.val; omega)
  · rw [Finset.mem_filter, hp] at he
    exact congrArg u (Fin.ext (by show e.val = 10 * i.val + e.val % 10; omega))

/-- A word that holds a number below 8192 reads, signed, as that number. -/
theorem toInt_small {n : ℕ} (h : n < 8192) : (BitVec.ofNat 32 n).toInt = (n : Int) :=
  StableHlo.Predicate.toInt_ofNat_small _ (by omega)

/-! ## Rows taken by index -/

/-- The row of a table that an index word takes. -/
theorem take_row (d : GatherDims (mat R B) (mat E 1) (mat E B)) (hoff : d.offsetDims = [1]) (hcoll : d.collapsedSliceDims = [0])
    (hob : d.operandBatchingDims = []) (hsim : d.startIndexMap = [0]) (hivd : d.indexVectorDim = 1) (x : FVec Ideal (mat R B) .f32)
    (idx : IVec (mat E 1) 32) (e : Fin E) (f : Fin B) (b : Fin R) (hb : idx (ix2 e 0) = BitVec.ofNat 32 b.val) (hR : R < 2 ^ 31) :
    Host.gather d x idx (ix2 e f) = x (ix2 b f) :=
  Routing.gather_row d hoff hcoll hob hsim hivd x idx e f b hb hR

/-- The test that a word lies between 0 and 8191 holds of a number below 8192. -/
theorem in_range {n : ℕ} (h : n < 8192) :
    IntOp.andi (IntOp.cmpi .sge (BitVec.ofNat 32 n) 0#32) (IntOp.cmpi .sle (BitVec.ofNat 32 n) 8191#32) = 1#1 := by
  have := toInt_small h
  unfold IntOp.andi IntOp.cmpi
  have h0 : (0#32).toInt = 0 := rfl
  have h1 : (8191#32).toInt = 8191 := rfl
  simp only [BitVec.sle, this, h0, h1]
  rw [decide_eq_true (show (0 : Int) ≤ n by omega), decide_eq_true (show (n : Int) ≤ 8191 by omega)]
  rfl

/-- A number below 8192 is not negative as a word, so the wrap of negative indices leaves it. -/
theorem wrap_small {n : ℕ} (h : n < 8192) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

end Cert.Edges

end
-- ==== Proof.RefEdges.lean ====
/- The reference program's edge list and what it accumulates along it, read at an index: each node's ten edges go to the
   columns of its ten greatest similarities, weighted by them. -/
module

public import proofs.«01_k».proof.Proof.Gen.ReferenceIdeal.Run
public import proofs.«01_k».proof.Proof.Edges
public import Idealize.ShloMosaic.Lib.Pointwise
public import Idealize.ShloMosaic.Lib.Tactic.CleanTypes

@[expose] public section

noncomputable section

namespace Cert.ReferenceIdeal.Value

open Idealize.ShloMosaic Idealize.ShloMosaic.StableHlo Cert.ReferenceIdeal Cert.ReferenceIdeal.Gen Cert.Select Cert.Edges

variable (V : Valuation τ sig (Elt Ideal))

/-- The reference's similarity matrix. -/
abbrev simOf : FVec Ideal (mat 8192 8192) .f32 := res_main_v17 V

/-- The node an edge belongs to. -/
def nodeOf (e : Fin 81920) : Fin 8192 := ⟨e.val / 10, by omega⟩

/-- The column an edge goes to. -/
def srcOf (e : Fin 81920) : Fin 8192 := nth (simOf V) (nodeOf e) (e.val % 10)

/-- Edge `k` of a node belongs to it. -/
theorem nodeOf_edge (i : Fin 8192) (k : Fin 10) : nodeOf (edge i k) = i :=
  Fin.ext (by show (10 * i.val + k.val) / 10 = i.val; omega)

/-- Edge `k` of a node goes to the column of rank `k`. -/
theorem srcOf_edge (i : Fin 8192) (k : Fin 10) : srcOf V (edge i k) = nth (simOf V) i k.val := by
  unfold srcOf
  rw [nodeOf_edge]
  exact congrArg _ (by show (10 * i.val + k.val) % 10 = k.val; omega)

/-- The list of the edges' nodes holds, at an edge, its node's word. -/
theorem v20_apply (e : Fin 81920) : res_main_v20 V (ix1 e) = BitVec.ofNat 32 (nodeOf e).val := by
  unfold res_main_v20
  clean_types
  pointwise
  rfl

/-- The list of the edges' columns holds, at an edge, its column's word. -/
theorem v21_apply (e : Fin 81920) : res_main_v21 V (ix1 e) = BitVec.ofNat 32 (srcOf V e).val := by
  unfold res_main_v21
  clean_types
  pointwise
  exact topK_index (simOf V) sliceFits_S8192x8192_S8192x10 (nodeOf e) ⟨e.val % 10, Nat.mod_lt _ (by norm_num)⟩ (by show e.val % 10 < 8192; omega)

/-- The list of the edges' weights holds, at an edge, its similarity. -/
theorem v22_apply (e : Fin 81920) : res_main_v22 V (ix1 e) = simOf V (ix2 (nodeOf e) (srcOf V e)) := by
  unfold res_main_v22
  clean_types
  pointwise
  exact topK_value (simOf V) sliceFits_S8192x8192_S8192x10 (nodeOf e) ⟨e.val % 10, Nat.mod_lt _ (by norm_num)⟩ (by show e.val % 10 < 8192; omega)

/-- The wrapped column index of an edge is its column's word. -/
theorem call1_v5_apply (e : Fin 81920) : res_main_call1_v5 V (ix2 e 0) = BitVec.ofNat 32 (srcOf V e).val := by
  unfold res_main_call1_v5
  clean_types
  pointwise
  rw [v21_apply]
  exact wrap_small (srcOf V e).isLt _

/-- The second take's wrapped column index is the first's. -/
theorem call3_v5_eq : res_main_call3_v5 V = res_main_call1_v5 V := rfl

/-- The word of an edge's node reads as the node's number. -/
theorem node_iff (e : Fin 81920) (i : Fin 8192) :
    (broadcastInDim S81920x1 ![0] bcast_S81920_S81920x1_0 (res_main_v20 V) (ix2 e 0)).toInt = (i.val : Int) ↔ e.val / 10 = i.val := by
  pointwise
  rw [v20_apply, toInt_small (nodeOf e).isLt]
  show ((e.val / 10 : ℕ) : Int) = (i.val : Int) ↔ _
  omega

/-- The degree of a node is the sum of its ten greatest similarities. -/
theorem deg_apply (i : Fin 8192) :
    Host.scatterAdd scatter_S8192_S81920x1_S81920_n_0_0_1 (broadcastInDim S8192 ![] bcast_S_S8192 (constant S_ .f32 0x00000000#32))
        (broadcastInDim S81920x1 ![0] bcast_S81920_S81920x1_0 (res_main_v20 V)) (res_main_v22 V) (ix1 i)
      = ∑ k ∈ Finset.range 10, (simOf V (ix2 i (nth (simOf V) i k)) : EReal) := by
  refine (scatterAdd_vec scatter_S8192_S81920x1_S81920_n_0_0_1_wf _ _ _ i).trans ?_
  rw [sum_edges i _ (fun e => node_iff V e i), Finset.sum_range]
  pointwise
  refine Finset.sum_congr rfl fun k _ => ?_
  rw [v22_apply, nodeOf_edge, srcOf_edge]

/-- The test of a take along a column of words is a conjunction of one term. -/
theorem fold_one (g : Fin 1 → BitVec 1) (h : g 0 = 1#1) : Finset.fold IntOp.andi (1#1) g Finset.univ = 1#1 := by
  rw [Finset.univ_unique, Finset.fold_singleton]
  show IntOp.andi (g 0) 1#1 = 1#1
  rw [h]
  rfl

/-- The first layer's take, at an edge whose word is in range: the table's row at that word. -/
theorem take128_apply (F : FVec Ideal S8192x128 .f32) (idx : IVec S81920x1 32) (e : Fin 81920) (f : Fin 128) (b : Fin 8192)
    (hb : idx (ix2 e 0) = BitVec.ofNat 32 b.val) :
    (select (broadcastInDim S81920x128 ![0] bcast_S81920_S81920x128_0 (Host.reduce IntOp.andi (andi (cmpi .sge idx (broadcastInDim S81920x1 ![] bcast_S_S81920x1 (constantI S_ 32 0#32))) (cmpi .sle idx (broadcastInDim S81920x1 ![0, 1] bcast_S1x1_S81920x1_0_1 (broadcastInDim S1x1 ![1] bcast_S1_S1x1_1 (constantI S1 32 8191#32))))) (constantI S_ 1 1#1) reducesTo_S81920x1_S81920_d1 h_S_)) (Host.gather gather_S8192x128_S81920x1_S81920x128_1_0_n_n_0_1_1128 F idx) (broadcastInDim S81920x128 ![] bcast_S_S81920x128 (constant S_ .f32 0x7FC00000#32)) : FVec Ideal S81920x128 .f32) (ix2 e f) = F (ix2 b f) := by
  pointwise
  rw [fold_one _ (by rw [hb, in_range b.isLt]), take_row _ rfl rfl rfl rfl rfl F idx e f b hb (by norm_num)]
  rfl

/-- What the first layer accumulates at a node of rows `T` that are taken from `F`: the rows of its ten columns, weighted
    by the similarities. -/
theorem sum128_apply (F : FVec Ideal S8192x128 .f32) (T : FVec Ideal S81920x128 .f32)
    (hT : ∀ e f, T (ix2 e f) = F (ix2 (srcOf V e) f)) (i : Fin 8192) (f : Fin 128) :
    Host.scatterAdd scatter_S8192x128_S81920x1_S81920x128_1_0_0_1 (broadcastInDim S8192x128 ![] bcast_S_S8192x128 (constant S_ .f32 0x00000000#32)) (broadcastInDim S81920x1 ![0] bcast_S81920_S81920x1_0 (res_main_v20 V)) (mulf (broadcastInDim S81920x128 ![0, 1] bcast_S81920x1_S81920x128_0_1 (broadcastInDim S81920x1 ![0] bcast_S81920_S81920x1_0 (res_main_v22 V))) T) (ix2 i f)
      = ∑ k ∈ Finset.range 10, (simOf V (ix2 i (nth (simOf V) i k)) : EReal) * (F (ix2 (nth (simOf V) i k) f) : EReal) := by
  refine (scatterAdd_row scatter_S8192x128_S81920x1_S81920x128_1_0_0_1_wf _ _ _ i f).trans ?_
  rw [sum_edges i _ (fun e => node_iff V e i), Finset.sum_range]
  pointwise
  refine Finset.sum_congr rfl fun k _ => ?_
  rw [v22_apply, hT, nodeOf_edge, srcOf_edge]

/-- What the first layer accumulates at a node: the rows of its ten columns, weighted by the similarities. -/
theorem agg128_apply (F : FVec Ideal S8192x128 .f32) (i : Fin 8192) (f : Fin 128) :
    Host.scatterAdd scatter_S8192x128_S81920x1_S81920x128_1_0_0_1 (broadcastInDim S8192x128 ![] bcast_S_S8192x128 (constant S_ .f32 0x00000000#32)) (broadcastInDim S81920x1 ![0] bcast_S81920_S81920x1_0 (res_main_v20 V)) (mulf (broadcastInDim S81920x128 ![0, 1] bcast_S81920x1_S81920x128_0_1 (broadcastInDim S81920x1 ![0] bcast_S81920_S81920x1_0 (res_main_v22 V))) (select (broadcastInDim S81920x128 ![0] bcast_S81920_S81920x128_0 (Host.reduce IntOp.andi (andi (cmpi .sge (res_main_call1_v5 V) (broadcastInDim S81920x1 ![] bcast_S_S81920x1 (constantI S_ 32 0#32))) (cmpi .sle (res_main_call1_v5 V) (broadcastInDim S81920x1 ![0, 1] bcast_S1x1_S81920x1_0_1 (broadcastInDim S1x1 ![1] bcast_S1_S1x1_1 (constantI S1 32 8191#32))))) (constantI S_ 1 1#1) reducesTo_S81920x1_S81920_d1 h_S_)) (Host.gather gather_S8192x128_S81920x1_S81920x128_1_0_n_n_0_1_1128 F (res_main_call1_v5 V)) (broadcastInDim S81920x128 ![] bcast_S_S81920x128 (constant S_ .f32 0x7FC00000#32)))) (ix2 i f)
      = ∑ k ∈ Finset.range 10, (simOf V (ix2 i (nth (simOf V) i k)) : EReal) * (F (ix2 (nth (simOf V) i k) f) : EReal) :=
  sum128_apply V F _ (fun e f => take128_apply F (res_main_call1_v5 V) e f (srcOf V e) (call1_v5_apply V e)) i f

/-- The second layer's take, at an edge whose word is in range: the table's row at that word. -/
theorem take256_apply (F : FVec Ideal S8192x256 .f32) (idx : IVec S81920x1 32) (e : Fin 81920) (f : Fin 256) (b : Fin 8192)
    (hb : idx (ix2 e 0) = BitVec.ofNat 32 b.val) :
    (select (broadcastInDim S81920x256 ![0] bcast_S81920_S81920x256_0 (Host.reduce IntOp.andi (andi (cmpi .sge idx (broadcastInDim S81920x1 ![] bcast_S_S81920x1 (constantI S_ 32 0#32))) (cmpi .sle idx (broadcastInDim S81920x1 ![0, 1] bcast_S1x1_S81920x1_0_1 (broadcastInDim S1x1 ![1] bcast_S1_S1x1_1 (constantI S1 32 8191#32))))) (constantI S_ 1 1#1) reducesTo_S81920x1_S81920_d1 h_S_)) (Host.gather gather_S8192x256_S81920x1_S81920x256_1_0_n_n_0_1_1256 F idx) (broadcastInDim S81920x256 ![] bcast_S_S81920x256 (constant S_ .f32 0x7FC00000#32)) : FVec Ideal S81920x256 .f32) (ix2 e f) = F (ix2 b f) := by
  pointwise
  rw [fold_one _ (by rw [hb, in_range b.isLt]), take_row _ rfl rfl rfl rfl rfl F idx e f b hb (by norm_num)]
  rfl

/-- What the second layer accumulates at a node of rows `T` that are taken from `F`: the rows of its ten columns, weighted
    by the similarities. -/
theorem sum256_apply (F : FVec Ideal S8192x256 .f32) (T : FVec Ideal S81920x256 .f32)
    (hT : ∀ e f, T (ix2 e f) = F (ix2 (srcOf V e) f)) (i : Fin 8192) (f : Fin 256) :
    Host.scatterAdd scatter_S8192x256_S81920x1_S81920x256_1_0_0_1 (broadcastInDim S8192x256 ![] bcast_S_S8192x256 (constant S_ .f32 0x00000000#32)) (broadcastInDim S81920x1 ![0] bcast_S81920_S81920x1_0 (res_main_v20 V)) (mulf (broadcastInDim S81920x256 ![0, 1] bcast_S81920x1_S81920x256_0_1 (broadcastInDim S81920x1 ![0] bcast_S81920_S81920x1_0 (res_main_v22 V))) T) (ix2 i f)
      = ∑ k ∈ Finset.range 10, (simOf V (ix2 i (nth (simOf V) i k)) : EReal) * (F (ix2 (nth (simOf V) i k) f) : EReal) := by
  refine (scatterAdd_row scatter_S8192x256_S81920x1_S81920x256_1_0_0_1_wf _ _ _ i f).trans ?_
  rw [sum_edges i _ (fun e => node_iff V e i), Finset.sum_range]
  pointwise
  refine Finset.sum_congr rfl fun k _ => ?_
  rw [v22_apply, hT, nodeOf_edge, srcOf_edge]

/-- What the second layer accumulates at a node: the rows of its ten columns, weighted by the similarities. -/
theorem agg256_apply (F : FVec Ideal S8192x256 .f32) (i : Fin 8192) (f : Fin 256) :
    Host.scatterAdd scatter_S8192x256_S81920x1_S81920x256_1_0_0_1 (broadcastInDim S8192x256 ![] bcast_S_S8192x256 (constant S_ .f32 0x00000000#32)) (broadcastInDim S81920x1 ![0] bcast_S81920_S81920x1_0 (res_main_v20 V)) (mulf (broadcastInDim S81920x256 ![0, 1] bcast_S81920x1_S81920x256_0_1 (broadcastInDim S81920x1 ![0] bcast_S81920_S81920x1_0 (res_main_v22 V))) (select (broadcastInDim S81920x256 ![0] bcast_S81920_S81920x256_0 (Host.reduce IntOp.andi (andi (cmpi .sge (res_main_call3_v5 V) (broadcastInDim S81920x1 ![] bcast_S_S81920x1 (constantI S_ 32 0#32))) (cmpi .sle (res_main_call3_v5 V) (broadcastInDim S81920x1 ![0, 1] bcast_S1x1_S81920x1_0_1 (broadcastInDim S1x1 ![1] bcast_S1_S1x1_1 (constantI S1 32 8191#32))))) (constantI S_ 1 1#1) reducesTo_S81920x1_S81920_d1 h_S_)) (Host.gather gather_S8192x256_S81920x1_S81920x256_1_0_n_n_0_1_1256 F (res_main_call3_v5 V)) (broadcastInDim S81920x256 ![] bcast_S_S81920x256 (constant S_ .f32 0x7FC00000#32)))) (ix2 i f)
      = ∑ k ∈ Finset.range 10, (simOf V (ix2 i (nth (simOf V) i k)) : EReal) * (F (ix2 (nth (simOf V) i k) f) : EReal) :=
  sum256_apply V F _ (fun e f => take256_apply F (res_main_call3_v5 V) e f (srcOf V e) (call1_v5_apply V e)) i f

/-- The pairs of words at which the reference sets the adjacency matrix: an edge's node and its column. -/
def pairsOf : IVec S81920x2 32 :=
  concatenate S81920x2 1 [⟨S81920x1, (broadcastInDim S81920x1 ![0] bcast_S81920_S81920x1_0 (select (cmpi .slt (res_main_v20 V) (broadcastInDim S81920 ![] bcast_S_S81920 (constantI S_ 32 0#32))) (addi (res_main_v20 V) (broadcastInDim S81920 ![] bcast_S_S81920 (constantI S_ 32 8192#32))) (res_main_v20 V)))⟩, ⟨S81920x1, (broadcastInDim S81920x1 ![0] bcast_S81920_S81920x1_0 (select (cmpi .slt (res_main_v21 V) (broadcastInDim S81920 ![] bcast_S_S81920 (constantI S_ 32 0#32))) (addi (res_main_v21 V) (broadcastInDim S81920 ![] bcast_S_S81920 (constantI S_ 32 8192#32))) (res_main_v21 V)))⟩] concatenates_S81920x1_S81920x1_S81920x2_d1

/-- An edge's first word is its node's. -/
theorem pairs_node (e : Fin 81920) : pairsOf V (ix2 e 0) = BitVec.ofNat 32 (nodeOf e).val := by
  unfold pairsOf
  pointwise
  rw [v20_apply]
  exact wrap_small (nodeOf e).isLt _

/-- An edge's second word is its column's. -/
theorem pairs_src (e : Fin 81920) : pairsOf V (ix2 e 1) = BitVec.ofNat 32 (srcOf V e).val := by
  unfold pairsOf
  pointwise
  rw [v21_apply]
  exact wrap_small (srcOf V e).isLt _

/-- An edge is set at its node's row and its column, there alone. -/
theorem pairs_land (e : Fin 81920) (i j : Fin 8192) :
    scatter_S8192x8192_S81920x2_S81920_n_01_01_1.resultIdx? (ix1 e) (pairsOf V) = some (ix2 i j) ↔ nodeOf e = i ∧ srcOf V e = j := by
  refine (pair_lands scatter_S8192x8192_S81920x2_S81920_n_01_01_1_wf (pairsOf V) e i j).trans ?_
  rw [pairs_node, pairs_src, toInt_small (nodeOf e).isLt, toInt_small (srcOf V e).isLt, Fin.ext_iff, Fin.ext_iff]
  omega

/-- The reference's adjacency matrix. -/
def adjOf : FVec Ideal S8192x8192 .f32 :=
  Host.scatter scatter_S8192x8192_S81920x2_S81920_n_01_01_1 (fun _ b => b) (broadcastInDim S8192x8192 ![] bcast_S_S8192x8192 (constant (F := Ideal) S_ .f32 0x00000000#32)) (pairsOf V) (res_main_v22 V)

/-- At one of the ten columns of a row the adjacency matrix holds the similarity. -/
theorem adj_hit (i j : Fin 8192) (h : ∃ k, k < 10 ∧ nth (simOf V) i k = j) : adjOf V (ix2 i j) = simOf V (ix2 i j) := by
  obtain ⟨k, hk, hj⟩ := h
  refine Routing.scatter_set_hit _ _ (pairsOf V) _ (ix2 i j) _ (fun e he => ?_) (ix1 (edge i ⟨k, hk⟩))
    ((pairs_land V _ i j).2 ⟨nodeOf_edge i _, by rw [srcOf_edge]; exact hj⟩)
  rw [← ix1_eta e] at he ⊢
  obtain ⟨hi, hj'⟩ := (pairs_land V _ i j).1 he
  exact (v22_apply V (e 0)).trans (congrArg₂ (fun a b => simOf V (ix2 a b)) hi hj')

/-- At every other column the adjacency matrix holds zero. -/
theorem adj_miss (i j : Fin 8192) (h : ¬ ∃ k, k < 10 ∧ nth (simOf V) i k = j) : adjOf V (ix2 i j) = (0 : EReal) := by
  refine (Routing.scatter_set_miss _ _ (pairsOf V) _ (ix2 i j) (fun e he => ?_)).trans (by pointwise)
  rw [← ix1_eta e] at he
  obtain ⟨hi, hj⟩ := (pairs_land V _ i j).1 he
  refine h ⟨(e 0).val % 10, Nat.mod_lt _ (by norm_num), ?_⟩
  rw [← hi]
  exact hj

end Cert.ReferenceIdeal.Value

end
-- ==== Proof.Insert.lean ====
/- The sweep over the 64 column groups keeps, of each lane, the three greatest similarities. -/
module

public import proofs.«01_k».proof.Proof.Select
public import proofs.«01_k».proof.Proof.Gen.KernelIdeal.Frame
public import Idealize.ShloMosaic.Lib.Pointwise

@[expose] public section

noncomputable section

namespace Cert.KernelIdeal.Value

open Idealize.ShloMosaic Cert.KernelIdeal Cert.KernelIdeal.Gen Cert.Select

/-- The similarities of one block's row `p`: the inner products of its features with every row's. -/
def rowSim (x0 : Vec Ideal S512x128 .f32) (x1 : Vec Ideal S8192x128 .f32) (p : Fin 512) (c : Fin 8192) : EReal :=
  ∑ k : Fin 128, x0 (ix2 p k) * x1 (ix2 c k)

/-- The similarities of a row block, at an index. -/
theorem sim_apply (x0 : Vec Ideal S512x128 .f32) (x1 : Vec Ideal S8192x128 .f32) (p : Fin 512) (c : Fin 8192) :
    k1_pay3 x0 x1 (ix2 p c) = rowSim x0 x1 p c := by
  pointwise [k1_pay3, k1_pay2, rowSim]

/-- The binary32 pattern of negative infinity is the bottom of the ideal values. -/
theorem neg_inf : Ideal.ofBits .f32 0xFF800000#32 = ⊥ := by simp [Ideal.ofBits, Ideal.ieee]

/-- A column `o + l` with `o` a multiple of the lane count is lane `l`'s element number `o / 128`. -/
theorem col_lane (r : Fin 8192 → EReal) (l : Fin 128) (o : ℕ) (ho : o % 128 = 0) (h : o + l.val < 8192) :
    r ⟨o + l.val, h⟩ = laneVal r l (o / 128) := by
  refine congrArg r (Fin.ext ?_)
  have e : 128 * (o / 128) = o := by omega
  show o + l.val = (128 * (o / 128) + l.val) % 8192
  rw [e, Nat.mod_eq_of_lt h]

/-- The first 128 columns are the lanes' elements number `0`. -/
theorem col_lane_zero (r : Fin 8192 → EReal) (l : Fin 128) (h : l.val < 8192) :
    r ⟨l.val, h⟩ = laneVal r l 0 := by
  refine congrArg r (Fin.ext ?_)
  show l.val = (128 * 0 + l.val) % 8192
  rw [Nat.mul_zero, Nat.zero_add, Nat.mod_eq_of_lt h]

/-- `n` insertions of a sequence's elements from number `a` on into a running triple. -/
def insFrom (x : ℕ → EReal) (s : EReal × EReal × EReal) (a : ℕ) : ℕ → EReal × EReal × EReal
  | 0 => s
  | n + 1 => ins (insFrom x s a n) (x (a + n))

/-- Inserting elements `a … a + n - 1` after the first `a` is inserting the first `a + n`. -/
theorem top3_add (x : ℕ → EReal) (a n : ℕ) : top3 x (a + n) = insFrom x (top3 x a) a n := by
  induction n with
  | zero => rfl
  | succ n ih => rw [← Nat.add_assoc]; simp only [top3, insFrom, ih]

variable (v4 : FVec Ideal S512x8192 .f32) (r : Fin 8192 → EReal) (p : Fin 512) (h4 : ∀ c, v4 (ix2 p c) = r c)
variable (l : Fin 128) (a b c d : FVec Ideal S512x128 .f32) (s : EReal × EReal × EReal)

/-- After the first part a lane's running triple (its third slot in two pieces) is its first eight elements'. -/
theorem part1_triple (x0 : Vec Ideal S512x128 .f32) (x1 : Vec Ideal S8192x128 .f32) (h : ∀ c, k1_pay3 x0 x1 (ix2 p c) = r c) :
    k1_pay36 x0 x1 (ix2 p l) = (top3 (laneVal r l) 8).1 ∧
    k1_pay38 x0 x1 (ix2 p l) = (top3 (laneVal r l) 8).2.1 ∧
    max (k1_pay33 x0 x1 (ix2 p l)) (k1_pay37 x0 x1 (ix2 p l)) = (top3 (laneVal r l) 8).2.2 := by
  refine ⟨?_, ?_, ?_⟩ <;>
  · pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38]
    simp only [h, col_lane, col_lane_zero, Nat.reduceMod, Nat.reduceDiv, top3, ins, neg_inf]

include h4 in
/-- Part 2 inserts each lane's elements 8 to 17 into its running triple. -/
theorem part2_triple (hb : b (ix2 p l) = s.1) (hd : d (ix2 p l) = s.2.1) (hac : max (a (ix2 p l)) (c (ix2 p l)) = s.2.2) :
    k1_pay78 v4 b (ix2 p l) = (insFrom (laneVal r l) s 8 10).1 ∧
    k1_pay80 v4 b d (ix2 p l) = (insFrom (laneVal r l) s 8 10).2.1 ∧
    max (k1_pay75 v4 a b c d (ix2 p l)) (k1_pay79 v4 b d (ix2 p l)) = (insFrom (laneVal r l) s 8 10).2.2 := by
  refine ⟨?_, ?_, ?_⟩ <;>
  · pointwise [k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80]
    simp only [h4, col_lane, Nat.reduceMod, Nat.reduceDiv, Nat.reduceAdd, insFrom, ins, hb, hd, hac]

include h4 in
/-- Part 3 inserts each lane's elements 18 to 27 into its running triple. -/
theorem part3_triple (hb : b (ix2 p l) = s.1) (hd : d (ix2 p l) = s.2.1) (hac : max (a (ix2 p l)) (c (ix2 p l)) = s.2.2) :
    k1_pay120 v4 b (ix2 p l) = (insFrom (laneVal r l) s 18 10).1 ∧
    k1_pay122 v4 b d (ix2 p l) = (insFrom (laneVal r l) s 18 10).2.1 ∧
    max (k1_pay117 v4 a b c d (ix2 p l)) (k1_pay121 v4 b d (ix2 p l)) = (insFrom (laneVal r l) s 18 10).2.2 := by
  refine ⟨?_, ?_, ?_⟩ <;>
  · pointwise [k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122]
    simp only [h4, col_lane, Nat.reduceMod, Nat.reduceDiv, Nat.reduceAdd, insFrom, ins, hb, hd, hac]

include h4 in
/-- Part 4 inserts each lane's elements 28 to 37 into its running triple. -/
theorem part4_triple (hb : b (ix2 p l) = s.1) (hd : d (ix2 p l) = s.2.1) (hac : max (a (ix2 p l)) (c (ix2 p l)) = s.2.2) :
    k1_pay162 v4 b (ix2 p l) = (insFrom (laneVal r l) s 28 10).1 ∧
    k1_pay164 v4 b d (ix2 p l) = (insFrom (laneVal r l) s 28 10).2.1 ∧
    max (k1_pay159 v4 a b c d (ix2 p l)) (k1_pay163 v4 b d (ix2 p l)) = (insFrom (laneVal r l) s 28 10).2.2 := by
  refine ⟨?_, ?_, ?_⟩ <;>
  · pointwise [k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164]
    simp only [h4, col_lane, Nat.reduceMod, Nat.reduceDiv, Nat.reduceAdd, insFrom, ins, hb, hd, hac]

include h4 in
/-- Part 5 inserts each lane's elements 38 to 47 into its running triple. -/
theorem part5_triple (hb : b (ix2 p l) = s.1) (hd : d (ix2 p l) = s.2.1) (hac : max (a (ix2 p l)) (c (ix2 p l)) = s.2.2) :
    k1_pay204 v4 b (ix2 p l) = (insFrom (laneVal r l) s 38 10).1 ∧
    k1_pay206 v4 b d (ix2 p l) = (insFrom (laneVal r l) s 38 10).2.1 ∧
    max (k1_pay201 v4 a b c d (ix2 p l)) (k1_pay205 v4 b d (ix2 p l)) = (insFrom (laneVal r l) s 38 10).2.2 := by
  refine ⟨?_, ?_, ?_⟩ <;>
  · pointwise [k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206]
    simp only [h4, col_lane, Nat.reduceMod, Nat.reduceDiv, Nat.reduceAdd, insFrom, ins, hb, hd, hac]

include h4 in
/-- Part 6 inserts each lane's elements 48 to 57 into its running triple. -/
theorem part6_triple (hb : b (ix2 p l) = s.1) (hd : d (ix2 p l) = s.2.1) (hac : max (a (ix2 p l)) (c (ix2 p l)) = s.2.2) :
    k1_pay246 v4 b (ix2 p l) = (insFrom (laneVal r l) s 48 10).1 ∧
    k1_pay248 v4 b d (ix2 p l) = (insFrom (laneVal r l) s 48 10).2.1 ∧
    max (k1_pay243 v4 a b c d (ix2 p l)) (k1_pay247 v4 b d (ix2 p l)) = (insFrom (laneVal r l) s 48 10).2.2 := by
  refine ⟨?_, ?_, ?_⟩ <;>
  · pointwise [k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248]
    simp only [h4, col_lane, Nat.reduceMod, Nat.reduceDiv, Nat.reduceAdd, insFrom, ins, hb, hd, hac]

include h4 in
/-- The last part inserts each lane's elements 58 to 63 into its running triple. -/
theorem part7_triple (hb : b (ix2 p l) = s.1) (hd : d (ix2 p l) = s.2.1) (hac : max (a (ix2 p l)) (c (ix2 p l)) = s.2.2) :
    k1_pay271 v4 b (ix2 p l) = (insFrom (laneVal r l) s 58 6).1 ∧
    k1_pay272 v4 b d (ix2 p l) = (insFrom (laneVal r l) s 58 6).2.1 ∧
    k1_pay273 v4 a b c d (ix2 p l) = (insFrom (laneVal r l) s 58 6).2.2 := by
  refine ⟨?_, ?_, ?_⟩ <;>
  · pointwise [k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273]
    simp only [h4, col_lane, Nat.reduceMod, Nat.reduceDiv, Nat.reduceAdd, insFrom, ins, hb, hd, hac]

end Cert.KernelIdeal.Value
end
-- ==== Proof.Rounds.lean ====
/- The ten rounds that take the greatest of the lanes' heads, and the threshold that they leave. -/
module
public import proofs.«01_k».proof.Proof.Insert
@[expose] public section
noncomputable section
namespace Cert.KernelIdeal.Value
open Idealize.ShloMosaic Cert.KernelIdeal Cert.KernelIdeal.Gen Cert.Select

/-- The three selects on a count are the offer of the triple at that count. -/
theorem select_offer (s : EReal × EReal × EReal) (e : BitVec 32) :
    Scalar.select (IntOp.cmpi .eq e 0#32) s.1 (Scalar.select (IntOp.cmpi .eq e 1#32) s.2.1 (Scalar.select (IntOp.cmpi .eq e 2#32) s.2.2 ⊥))
      = offer s e := by
  have key : ∀ (k : BitVec 32) (x y : EReal), Scalar.select (IntOp.cmpi .eq e k) x y = if e = k then x else y := fun k x y => by
    by_cases h : e = k
    · simp [IntOp.cmpi, Scalar.select, h]
    · simp [IntOp.cmpi, Scalar.select, h, beq_eq_false_iff_ne.2 h]
  simp only [key, offer]

/-- Adding a widened comparison adds one exactly where the comparison holds. -/
theorem add_bit (e : BitVec 32) (q : Prop) [Decidable q] :
    IntOp.addi e (BitVec.setWidth 32 (BitVec.ofBool (decide q))) = e + if q then 1#32 else 0#32 := by
  by_cases h : q <;> simp [IntOp.addi, h]

/-- A value kept where it reaches a level, however the comparison is decided. -/
theorem keep_eq (u v : EReal) [Decidable (u ≤ v)] : (if u ≤ v then v else 0) = keep u v := by
  unfold keep; congr

/-- Folding the greater of two from the bottom is the supremum. -/
theorem fold_best (f : Fin 128 → EReal) : Finset.fold max ⊥ f Finset.univ = Finset.univ.sup f := rfl

/-- The greatest offer, written as a supremum. -/
theorem best_def (s : Fin 128 → EReal × EReal × EReal) (f : Fin 128 → BitVec 32) : (Finset.univ.sup fun l => offer (s l) (f l)) = best s f := rfl

/-- One more round of a count, however the comparison is decided. -/
theorem taken_step (s : Fin 128 → EReal × EReal × EReal) (k : ℕ) (l : Fin 128) [Decidable (offer (s l) (taken s k l) = best s (taken s k))] :
    (taken s k l + if offer (s l) (taken s k l) = best s (taken s k) then 1#32 else 0#32) = taken s (k + 1) l := by
  show _ = Select.round s (taken s k) l
  unfold Select.round; congr

variable (p : Fin 512) (l : Fin 128) (a b c : FVec Ideal S512x128 .f32) (ex : IVec S512x128 32) (s : Fin 128 → EReal × EReal × EReal) (k : ℕ)
variable (ha : ∀ l, a (ix2 p l) = (s l).1) (hb : ∀ l, b (ix2 p l) = (s l).2.1) (hc : ∀ l, c (ix2 p l) = (s l).2.2)

/-- The first round's counts. -/
theorem round1 (v4 : FVec Ideal S512x8192 .f32) (v347 v350 v351 v352 : FVec Ideal S512x128 .f32)
    (ha : ∀ l, k1_pay271 v4 v350 (ix2 p l) = (s l).1) (hb : ∀ l, k1_pay272 v4 v350 v352 (ix2 p l) = (s l).2.1)
    (hc : ∀ l, k1_pay273 v4 v347 v350 v351 v352 (ix2 p l) = (s l).2.2) :
    k1_pay274 v4 v347 v350 v351 v352 (ix2 p l) = taken s 1 l := by
  pointwise [k1_pay274]
  simp only [ha, hb, hc, neg_inf, add_bit, fold_best]
  exact taken_step s 0 l

include ha hb hc in
/-- Two more rounds of counts. -/
theorem rounds2 (hex : ∀ l, ex (ix2 p l) = taken s k l) : k1_pay275 a b c ex (ix2 p l) = taken s (k + 1 + 1) l := by
  pointwise [k1_pay275]
  simp only [ha, hb, hc, hex, neg_inf, select_offer, add_bit, fold_best, best_def, taken_step]

include ha hb hc in
/-- The offers of the round after the next two. -/
theorem offers2 (hex : ∀ l, ex (ix2 p l) = taken s k l) : k1_pay276 a b c ex (ix2 p l) = offer (s l) (taken s (k + 1 + 1) l) := by
  have h := fun l => rounds2 p l a b c ex s k ha hb hc hex
  pointwise [k1_pay276]
  simp only [ha, hb, hc, h, neg_inf, select_offer]

include ha hb hc in
/-- The greatest of those offers, in every column. -/
theorem best2 (hex : ∀ l, ex (ix2 p l) = taken s k l) : k1_pay277 a b c ex (ix2 p l) = best s (taken s (k + 1 + 1)) := by
  have h := fun l => offers2 p l a b c ex s k ha hb hc hex
  pointwise [k1_pay277]
  simp only [h, neg_inf, fold_best, best_def]

variable (cur top : FVec Ideal S512x128 .f32)

include ha hb hc in
/-- Three more rounds of counts, the first of them from its offers and their greatest. -/
theorem rounds3 (hex : ∀ l, ex (ix2 p l) = taken s k l) (hcur : ∀ l, cur (ix2 p l) = offer (s l) (taken s k l))
    (htop : ∀ l, top (ix2 p l) = best s (taken s k)) :
    k1_pay278 a b c ex cur top (ix2 p l) = taken s (k + 1 + 1 + 1) l := by
  pointwise [k1_pay278]
  simp only [ha, hb, hc, hex, hcur, htop, neg_inf, select_offer, add_bit, fold_best, best_def, taken_step]

include ha hb hc in
/-- The offers of the round after those three. -/
theorem offers3 (hex : ∀ l, ex (ix2 p l) = taken s k l) (hcur : ∀ l, cur (ix2 p l) = offer (s l) (taken s k l))
    (htop : ∀ l, top (ix2 p l) = best s (taken s k)) :
    k1_pay279 a b c ex cur top (ix2 p l) = offer (s l) (taken s (k + 1 + 1 + 1) l) := by
  have h := fun l => rounds3 p l a b c ex s k ha hb hc cur top hex hcur htop
  pointwise [k1_pay279]
  simp only [ha, hb, hc, h, neg_inf, select_offer]

include ha hb hc in
/-- Three more rounds of counts, the first of them from its offers. -/
theorem rounds3' (hex : ∀ l, ex (ix2 p l) = taken s k l) (hcur : ∀ l, cur (ix2 p l) = offer (s l) (taken s k l)) :
    k1_pay280 a b c ex cur (ix2 p l) = taken s (k + 1 + 1 + 1) l := by
  pointwise [k1_pay280]
  simp only [ha, hb, hc, hex, hcur, neg_inf, select_offer, add_bit, fold_best, best_def, taken_step]

include ha hb hc in
/-- The last round's offers, its selects written apart. -/
theorem offers_last (hex : ∀ l, ex (ix2 p l) = taken s k l) (hcur : ∀ l, cur (ix2 p l) = offer (s l) (taken s k l)) :
    Scalar.select (k1_pay281 a b c ex cur (ix2 p l)) (a (ix2 p l))
      (Scalar.select (k1_pay282 a b c ex cur (ix2 p l)) (b (ix2 p l)) (k1_pay283 a b c ex cur (ix2 p l)))
      = offer (s l) (taken s (k + 1 + 1 + 1) l) := by
  have h := fun l => rounds3' p l a b c ex s k ha hb hc cur hex hcur
  pointwise [k1_pay281, k1_pay282, k1_pay283]
  simp only [ha, hb, hc, h, neg_inf, select_offer]

variable (v4 : FVec Ideal S512x8192 .f32) (r : Fin 8192 → EReal) (h4 : ∀ c, v4 (ix2 p c) = r c) (i1 i2 : IVec S512x128 1) (w : FVec Ideal S512x128 .f32)
variable (hs : s = triple r)
variable (hlast : ∀ l, Scalar.select (i1 (ix2 p l)) (a (ix2 p l)) (Scalar.select (i2 (ix2 p l)) (b (ix2 p l)) (w (ix2 p l))) = offer (s l) (taken s 9 l))

include h4 hs hlast in
/-- The adjacency block: a similarity is kept where it reaches its row's threshold. -/
theorem adj_apply (q : Fin 8192) : k1_pay285 v4 a b i1 i2 w (ix2 p q) = keep (thresh r) (r q) := by
  pointwise [k1_pay285, k1_pay284]
  subst hs
  simp only [h4, hlast, neg_inf, fold_best, keep_eq, thresh, best_def]

include ha hb hc h4 hs hlast in
/-- The aggregate of one row over its degree, through the first layer's weight. -/
theorem agg_apply (v3 : FVec Ideal S8192x128 .f32) (W : Vec Ideal S128x256 .f32) (q : Fin 256) :
    k1_pay286 v3 v4 a b c i1 i2 w W (ix2 p q) =
      ∑ f : Fin 128, Ideal.div (∑ j : Fin 8192, keep (thresh r) (r j) * v3 (ix2 j f))
        (max (degree r) (Ideal.ofBits .f32 0x2B8CBCCC#32)) * W (ix2 f q) := by
  have h := adj_apply p a b s v4 r h4 i1 i2 w hs hlast
  pointwise [k1_pay286, k1_pay284]
  subst hs
  simp only [ha, hb, hc, h] at hlast ⊢
  simp only [hlast, neg_inf, fold_best, keep_eq, thresh, best_def, degree]

end Cert.KernelIdeal.Value
end
-- ==== Proof.Block.lean ====
/- What one step of each call computes: the features' normalisation, a row block's adjacency and first layer, and a row block's second layer. -/
module
public import proofs.«01_k».proof.Proof.Rounds
public import Idealize.ShloMosaic.Lib.Pipeline.ValueKit.Basic
@[expose] public section
noncomputable section
namespace Cert.KernelIdeal.Value
open Idealize.ShloMosaic Cert.KernelIdeal Cert.KernelIdeal.Gen Cert.Select

variable (x0 : Vec Ideal S512x128 .f32) (x1 : Vec Ideal S8192x128 .f32) (x2 : Vec Ideal S128x256 .f32) (x3 : Vec Ideal S1x256 .f32)
variable (p : Fin 512) (l : Fin 128)

/-- The row block's load reads the whole of its buffer. -/
theorem ld0 : View.ld x0 r1_0 = x0 := View.ld_unit_lit _ x0 (by decide)
/-- The features' load reads the whole of its buffer. -/
theorem ld1 : View.ld x1 r1_1 = x1 := View.ld_unit_lit _ x1 (by decide)
/-- The weights' load reads the whole of its buffer. -/
theorem ld2 : View.ld x2 r1_3 = x2 := View.ld_unit_lit _ x2 (by decide)
/-- The bias's load reads the whole of its buffer. -/
theorem ld3 : View.ld x3 r1_4 = x3 := View.ld_unit_lit _ x3 (by decide)

/-- The similarities of the block, as the later parts read them. -/
theorem sim_block (c : Fin 8192) : k1_pay288 x0 x1 x2 x3 (ix2 p c) = rowSim x0 x1 p c := by
  unfold k1_pay288; rw [ld0, ld1]; exact sim_apply x0 x1 p c

/-- After all the insertions a lane's three values are the triple of its sixty-four similarities. -/
theorem triple_block :
    k1_pay303 x0 x1 x2 x3 (ix2 p l) = (triple (rowSim x0 x1 p) l).1 ∧
    k1_pay304 x0 x1 x2 x3 (ix2 p l) = (triple (rowSim x0 x1 p) l).2.1 ∧
    k1_pay305 x0 x1 x2 x3 (ix2 p l) = (triple (rowSim x0 x1 p) l).2.2 := by
  have h4 := sim_block x0 x1 x2 x3 p
  obtain ⟨a1, b1, c1⟩ := part1_triple (rowSim x0 x1 p) p l x0 x1 (sim_apply x0 x1 p)
  obtain ⟨a2, b2, c2⟩ := part2_triple _ _ p h4 l _ _ _ _ _ a1 b1 c1
  rw [← top3_add] at a2 b2 c2
  obtain ⟨a3, b3, c3⟩ := part3_triple _ _ p h4 l _ _ _ _ _ a2 b2 c2
  rw [← top3_add] at a3 b3 c3
  obtain ⟨a4, b4, c4⟩ := part4_triple _ _ p h4 l _ _ _ _ _ a3 b3 c3
  rw [← top3_add] at a4 b4 c4
  obtain ⟨a5, b5, c5⟩ := part5_triple _ _ p h4 l _ _ _ _ _ a4 b4 c4
  rw [← top3_add] at a5 b5 c5
  obtain ⟨a6, b6, c6⟩ := part6_triple _ _ p h4 l _ _ _ _ _ a5 b5 c5
  rw [← top3_add] at a6 b6 c6
  obtain ⟨a7, b7, c7⟩ := part7_triple _ _ p h4 l _ _ _ _ _ a6 b6 c6
  rw [← top3_add] at a7 b7 c7
  unfold k1_pay303 k1_pay304 k1_pay305 k1_pay302 k1_pay301 k1_pay300 k1_pay299 k1_pay298 k1_pay297 k1_pay296 k1_pay295 k1_pay294 k1_pay293 k1_pay292 k1_pay291 k1_pay290 k1_pay289
  rw [ld0, ld1]
  exact ⟨a7, b7, c7⟩

/-- The first running row of a block holds each lane's greatest similarity. -/
theorem m1_block : k1_pay303 x0 x1 x2 x3 (ix2 p l) = (triple (rowSim x0 x1 p) l).1 := (triple_block x0 x1 x2 x3 p l).1
/-- The second running row of a block holds each lane's second greatest similarity. -/
theorem m2_block : k1_pay304 x0 x1 x2 x3 (ix2 p l) = (triple (rowSim x0 x1 p) l).2.1 := (triple_block x0 x1 x2 x3 p l).2.1
/-- The third running row of a block holds each lane's third greatest similarity. -/
theorem m3_block : k1_pay305 x0 x1 x2 x3 (ix2 p l) = (triple (rowSim x0 x1 p) l).2.2 := (triple_block x0 x1 x2 x3 p l).2.2

/-- The last round's offers, from the block's inputs. -/
theorem last_block :
    Scalar.select (k1_pay312 x0 x1 x2 x3 (ix2 p l)) (k1_pay303 x0 x1 x2 x3 (ix2 p l))
      (Scalar.select (k1_pay313 x0 x1 x2 x3 (ix2 p l)) (k1_pay304 x0 x1 x2 x3 (ix2 p l)) (k1_pay314 x0 x1 x2 x3 (ix2 p l)))
      = offer (triple (rowSim x0 x1 p) l) (taken (triple (rowSim x0 x1 p)) 9 l) := by
  have h1 := m1_block x0 x1 x2 x3 p
  have h2 := m2_block x0 x1 x2 x3 p
  have h3 := m3_block x0 x1 x2 x3 p
  have e1 : ∀ l, k1_pay306 x0 x1 x2 x3 (ix2 p l) = taken (triple (rowSim x0 x1 p)) 1 l :=
    fun l => round1 p l (triple (rowSim x0 x1 p)) _ _ _ _ _ h1 h2 h3
  have e2 : ∀ l, k1_pay307 x0 x1 x2 x3 (ix2 p l) = taken (triple (rowSim x0 x1 p)) 3 l :=
    fun l => rounds2 p l _ _ _ _ _ 1 h1 h2 h3 e1
  have e3 : ∀ l, k1_pay308 x0 x1 x2 x3 (ix2 p l) = offer (triple (rowSim x0 x1 p) l) (taken (triple (rowSim x0 x1 p)) 3 l) :=
    fun l => offers2 p l _ _ _ _ _ 1 h1 h2 h3 e1
  have e4 : ∀ l, k1_pay309 x0 x1 x2 x3 (ix2 p l) = best (triple (rowSim x0 x1 p)) (taken (triple (rowSim x0 x1 p)) 3) :=
    fun l => best2 p l _ _ _ _ _ 1 h1 h2 h3 e1
  have e5 : ∀ l, k1_pay310 x0 x1 x2 x3 (ix2 p l) = taken (triple (rowSim x0 x1 p)) 6 l :=
    fun l => rounds3 p l _ _ _ _ _ 3 h1 h2 h3 _ _ e2 e3 e4
  have e6 : ∀ l, k1_pay311 x0 x1 x2 x3 (ix2 p l) = offer (triple (rowSim x0 x1 p) l) (taken (triple (rowSim x0 x1 p)) 6 l) :=
    fun l => offers3 p l _ _ _ _ _ 3 h1 h2 h3 _ _ e2 e3 e4
  exact offers_last p l _ _ _ _ _ 6 h1 h2 h3 _ e5 e6

/-- The adjacency block a grid step writes. -/
theorem adj_block (q : Fin 8192) : out1_4 x0 x1 x2 x3 (ix2 p q) = keep (thresh (rowSim x0 x1 p)) (rowSim x0 x1 p q) := by
  unfold out1_4
  refine (congrFun (View.canon_cons_unit_lit (Val := Elt Ideal) _ _ [] (by decide)) _).trans ?_
  exact adj_apply p _ _ _ _ _ (sim_block x0 x1 x2 x3 p) _ _ _ rfl (last_block x0 x1 x2 x3 p) q

/-- The second operand is read as it is. -/
theorem pay2_apply (j : Fin 8192) (f : Fin 128) : k1_pay2 x1 (ix2 j f) = x1 (ix2 j f) := by
  pointwise [k1_pay2]

/-- The bias and the rectifier at an index. -/
theorem relu_apply (a : FVec Ideal S512x256 .f32) (q : Fin 256) :
    k1_pay1 a (k1_pay287 x3) (ix2 p q) = max (a (ix2 p q) + x3 (ix2 0 q)) 0 := by
  pointwise [k1_pay1, k1_pay287]

/-- The first layer's block a grid step writes. -/
theorem h1_block (q : Fin 256) : out1_5 x0 x1 x2 x3 (ix2 p q) =
    max ((∑ f : Fin 128, Ideal.div (∑ j : Fin 8192, keep (thresh (rowSim x0 x1 p)) (rowSim x0 x1 p j) * x1 (ix2 j f))
        (max (degree (rowSim x0 x1 p)) (Ideal.ofBits .f32 0x2B8CBCCC#32)) * x2 (ix2 f q)) + x3 (ix2 0 q)) 0 := by
  unfold out1_5
  refine (congrFun (View.canon_cons_unit_lit (Val := Elt Ideal) _ _ [] (by decide)) _).trans ?_
  rw [ld1, ld2, ld3]
  have h := agg_apply p _ _ _ _ (m1_block x0 x1 x2 x3 p) (m2_block x0 x1 x2 x3 p) (m3_block x0 x1 x2 x3 p) _ _ (sim_block x0 x1 x2 x3 p) _ _ _ rfl (last_block x0 x1 x2 x3 p) (k1_pay2 x1) x2 q
  refine (relu_apply x3 p _ q).trans ?_
  rw [h]
  simp only [pay2_apply]

variable (y0 : Vec Ideal S8192x128 .f32) (y1 : Vec Ideal S128x128 .f32) (y2 : Vec Ideal S1x128 .f32)

/-- The gated features at an index. -/
def gated (y0 : Vec Ideal S8192x128 .f32) (y1 : Vec Ideal S128x128 .f32) (y2 : Fin 128 → EReal) (i : Fin 8192) (f : Fin 128) : EReal :=
  Ideal.logistic ((∑ k : Fin 128, y0 (ix2 i k) * y1 (ix2 k f)) + y2 f) * y0 (ix2 i f)

/-- The first kernel's result: the gated features times the reciprocal of their column's norm. -/
theorem featn_block (i : Fin 8192) (f : Fin 128) : out0_3 y0 y1 y2 (ix2 i f) =
    gated y0 y1 (fun f => y2 (ix2 0 f)) i f *
      Ideal.div 1 (max (Ideal.sqrt (∑ j : Fin 8192, gated y0 y1 (fun f => y2 (ix2 0 f)) j f * gated y0 y1 (fun f => y2 (ix2 0 f)) j f)) (Ideal.ofBits .f32 0x2B8CBCCC#32)) := by
  unfold out0_3
  refine (congrFun (View.canon_cons_unit_lit (Val := Elt Ideal) _ _ [] (by decide)) _).trans ?_
  rw [show View.ld y0 r0_0 = y0 from View.ld_unit_lit _ y0 (by decide), show View.ld y1 r0_1 = y1 from View.ld_unit_lit _ y1 (by decide),
    show View.ld y2 r0_2 = y2 from View.ld_unit_lit _ y2 (by decide)]
  pointwise [k0_pay1, gated]

variable (z0 : Vec Ideal S512x8192 .f32) (z1 : Vec Ideal S8192x256 .f32) (z2 : Vec Ideal S256x64 .f32) (z3 : Vec Ideal S1x64 .f32)

/-- The third kernel's block: the adjacency rows' aggregate over their sums, through the second layer. -/
theorem h2_block (q : Fin 64) : out2_4 z0 z1 z2 z3 (ix2 p q) =
    (∑ f : Fin 256, Ideal.div (∑ j : Fin 8192, z0 (ix2 p j) * z1 (ix2 j f))
      (max (∑ j : Fin 8192, z0 (ix2 p j)) (Ideal.ofBits .f32 0x2B8CBCCC#32)) * z2 (ix2 f q)) + z3 (ix2 0 q) := by
  unfold out2_4
  refine (congrFun (View.canon_cons_unit_lit (Val := Elt Ideal) _ _ [] (by decide)) _).trans ?_
  rw [show View.ld z0 r2_0 = z0 from View.ld_unit_lit _ z0 (by decide), show View.ld z1 r2_1 = z1 from View.ld_unit_lit _ z1 (by decide),
    show View.ld z2 r2_2 = z2 from View.ld_unit_lit _ z2 (by decide), show View.ld z3 r2_3 = z3 from View.ld_unit_lit _ z3 (by decide)]
  pointwise [k2_pay1]

end Cert.KernelIdeal.Value
end
-- ==== Proof.Arrays.lean ====
/- The arrays that the three calls leave, from their arguments: each is what its blocks hold, put together. -/
module
public import proofs.«01_k».proof.Proof.Block
public import Idealize.ShloMosaic.Lib.Pipeline.ValueKit
@[expose] public section
noncomputable section
namespace Cert.KernelIdeal.Value
open Idealize.ShloMosaic Idealize.SL.Sem Idealize.ShloMosaic.Pipeline Cert.KernelIdeal Cert.KernelIdeal.Gen Cert.Select

/-- The smallest denominator. -/
abbrev eps : EReal := Ideal.ofBits .f32 0x2B8CBCCC#32

/-- The normalised features the first kernel leaves. -/
def featnArr (x : Vec Ideal S8192x128 .f32) (W : Vec Ideal S128x128 .f32) (b : Fin 128 → EReal) : Vec Ideal S8192x128 .f32 :=
  fun j => gated x W b (j 0) (j 1) * Ideal.div 1 (max (Ideal.sqrt (∑ i : Fin 8192, gated x W b i (j 1) * gated x W b i (j 1))) eps)

/-- The similarities of one row of the features. -/
def simRow (F : Vec Ideal S8192x128 .f32) (i c : Fin 8192) : EReal := ∑ k : Fin 128, F (ix2 i k) * F (ix2 c k)

/-- The adjacency the second kernel leaves. -/
def adjArr (F : Vec Ideal S8192x128 .f32) : Vec Ideal S8192x8192 .f32 :=
  fun j => keep (thresh (simRow F (j 0))) (simRow F (j 0) (j 1))

/-- The first layer the second kernel leaves. -/
def h1Arr (F : Vec Ideal S8192x128 .f32) (W : Vec Ideal S128x256 .f32) (b : Fin 256 → EReal) : Vec Ideal S8192x256 .f32 :=
  fun j => max ((∑ f : Fin 128, Ideal.div (∑ i : Fin 8192, keep (thresh (simRow F (j 0))) (simRow F (j 0) i) * F (ix2 i f))
    (max (degree (simRow F (j 0))) eps) * W (ix2 f (j 1))) + b (j 1)) 0

/-- The second layer the third kernel leaves. -/
def h2Arr (A : Vec Ideal S8192x8192 .f32) (H : Vec Ideal S8192x256 .f32) (W : Vec Ideal S256x64 .f32) (b : Fin 64 → EReal) : Vec Ideal S8192x64 .f32 :=
  fun j => (∑ f : Fin 256, Ideal.div (∑ i : Fin 8192, A (ix2 (j 0) i) * H (ix2 i f)) (max (∑ i : Fin 8192, A (ix2 (j 0) i)) eps) * W (ix2 f (j 1))) + b (j 1)

variable (V : (c : Dev nD) → (b : Ref sig .tc) → Buf (Elt Ideal) ((c.tc : Thread nD τ).loc b)) (c : Dev nD)

/-- The first call takes each of its arrays as one block. -/
theorem idx0 : ∀ t : Fin cfg0.N, win0_0.index t = ![0, 0] ∧ win0_1.index t = ![0, 0] ∧ win0_2.index t = ![0, 0] ∧ win0_3.index t = ![0, 0] := by
  decide +kernel
/-- The second call's step `t` takes row block `t` of the features and the whole of the other arguments, and leaves row block `t` of its results. -/
theorem idx1 : ∀ t : Fin cfg1.N, win1_0.index t = ![t.val, 0] ∧ win1_1.index t = ![0, 0] ∧ win1_2.index t = ![0, 0] ∧ win1_3.index t = ![0, 0]
    ∧ win1_4.index t = ![t.val, 0] ∧ win1_5.index t = ![t.val, 0] := by
  decide +kernel
/-- The third call's step `t` takes row block `t` of the adjacency and the whole of the other arguments, and leaves row block `t` of its result. -/
theorem idx2 : ∀ t : Fin cfg2.N, win2_0.index t = ![t.val, 0] ∧ win2_1.index t = ![0, 0] ∧ win2_2.index t = ![0, 0] ∧ win2_3.index t = ![0, 0]
    ∧ win2_4.index t = ![t.val, 0] := by
  decide +kernel

/-- Row `p` of grid step `t`'s block, in the whole array. -/
def rowAt (t : ℕ) (ht : t < 16) (p : Fin 512) : Fin 8192 := ⟨512 * t + p.val, by have := p.isLt; omega⟩

/-- The first kernel's array. -/
theorem featn_array : (dat0 V c).arrAt 3 cfg0.N = featnArr (V c main_arg0) (V c main_arg1) (fun f => V c main_v0 (ix2 0 f)) := by
  refine (dat0 V c).arrAt_eq_of_covers 3 _ (by decide +kernel) fun t hf y => ?_
  blk_simp
  rw [after0_3]
  idx_vars y
  obtain ⟨i0, i1, i2, i3⟩ := idx0 t
  have e0 : (iblk0 V c 0 t : Vec Ideal S8192x128 .f32) = V c main_arg0 := funext fun j => by blk_ext [iblk0, i0]
  have e1 : (iblk0 V c 1 t : Vec Ideal S128x128 .f32) = V c main_arg1 := funext fun j => by blk_ext [iblk0, i1]
  have e2 : (iblk0 V c 2 t : Vec Ideal S1x128 .f32) = V c main_v0 := funext fun j => by blk_ext [iblk0, i2]
  have e3 : ((View.whole main_v3).slice (win0_3.rect t)).emb (ix2 y0 y1) = ix2 y0 y1 := by blk_ext [i3]
  rw [e3]
  refine (featn_block _ _ _ y0 y1).trans ?_
  rw [e0, e1, e2]
  rfl

/-- A block's similarities are the array's. -/
theorem rowSim_eq (t : Fin cfg1.N) (p : Fin 512) :
    rowSim (iblk1 V c 0 t) (iblk1 V c 1 t) p = simRow (V c main_v3) (rowAt t.val t.isLt p) := by
  obtain ⟨i0, i1, -⟩ := idx1 t
  funext q
  refine Finset.sum_congr rfl fun k _ => ?_
  congr 1
  · blk_ext [iblk1, i0, rowAt]
  · blk_ext [iblk1, i1]

/-- The second kernel's adjacency. -/
theorem adj_array : (dat1 V c).arrAt 4 cfg1.N = adjArr (V c main_v3) := by
  refine (dat1 V c).arrAt_eq_of_covers 4 _ (by decide +kernel) fun t hf y => ?_
  blk_simp
  rw [after1_4]
  idx_vars y
  obtain ⟨i0, i1, i2, i3, i4, i5⟩ := idx1 t
  have e : ((View.whole main_v4_0).slice (win1_4.rect t)).emb (ix2 y0 y1) = ix2 (rowAt t.val t.isLt y0) y1 := by blk_ext [i4, rowAt]
  rw [e]
  refine (adj_block _ _ _ _ y0 y1).trans ?_
  rw [rowSim_eq]
  rfl

/-- The second kernel's first layer. -/
theorem h1_array : (dat1 V c).arrAt 5 cfg1.N = h1Arr (V c main_v3) (V c main_arg3) (fun f => V c main_v1 (ix2 0 f)) := by
  refine (dat1 V c).arrAt_eq_of_covers 5 _ (by decide +kernel) fun t hf y => ?_
  blk_simp
  rw [after1_5]
  idx_vars y
  obtain ⟨i0, i1, i2, i3, i4, i5⟩ := idx1 t
  have e : ((View.whole main_v4_1).slice (win1_5.rect t)).emb (ix2 y0 y1) = ix2 (rowAt t.val t.isLt y0) y1 := by blk_ext [i5, rowAt]
  have e1 : (iblk1 V c 1 t : Vec Ideal S8192x128 .f32) = V c main_v3 := funext fun j => by blk_ext [iblk1, i1]
  have e2 : (iblk1 V c 2 t : Vec Ideal S128x256 .f32) = V c main_arg3 := funext fun j => by blk_ext [iblk1, i2]
  have e3 : (iblk1 V c 3 t : Vec Ideal S1x256 .f32) = V c main_v1 := funext fun j => by blk_ext [iblk1, i3]
  rw [e]
  refine (h1_block _ _ _ _ y0 y1).trans ?_
  rw [rowSim_eq, e1, e2, e3]
  rfl

/-- The third kernel's second layer. -/
theorem h2_array : (dat2 V c).arrAt 4 cfg2.N = h2Arr (V c main_v4_0) (V c main_v4_1) (V c main_arg5) (fun f => V c main_v2 (ix2 0 f)) := by
  refine (dat2 V c).arrAt_eq_of_covers 4 _ (by decide +kernel) fun t hf y => ?_
  blk_simp
  rw [after2_4]
  idx_vars y
  obtain ⟨i0, i1, i2, i3, i4⟩ := idx2 t
  have e : ((View.whole main_v5).slice (win2_4.rect t)).emb (ix2 y0 y1) = ix2 (rowAt t.val t.isLt y0) y1 := by blk_ext [i4, rowAt]
  have e0 : ∀ j : Fin 8192, (iblk2 V c 0 t : Vec Ideal S512x8192 .f32) (ix2 y0 j) = V c main_v4_0 (ix2 (rowAt t.val t.isLt y0) j) := fun j => by blk_ext [iblk2, i0, rowAt]
  have e1 : (iblk2 V c 1 t : Vec Ideal S8192x256 .f32) = V c main_v4_1 := funext fun j => by blk_ext [iblk2, i1]
  have e2 : (iblk2 V c 2 t : Vec Ideal S256x64 .f32) = V c main_arg5 := funext fun j => by blk_ext [iblk2, i2]
  have e3 : (iblk2 V c 3 t : Vec Ideal S1x64 .f32) = V c main_v2 := funext fun j => by blk_ext [iblk2, i3]
  rw [e]
  refine (h2_block y0 _ _ _ _ y1).trans ?_
  rw [e1, e2, e3]
  simp only [e0]
  rfl
end Cert.KernelIdeal.Value
end
-- ==== Proof.RefValue.lean ====
/- The reference's results as the arrays the kernel leaves, where the ten greatest columns of each row of the similarity
   matrix are its selection. -/
module

public import proofs.«01_k».proof.Proof.RefEdges
public import proofs.«01_k».proof.Proof.Arrays

@[expose] public section

noncomputable section

namespace Cert.ReferenceIdeal.Value

open Idealize.ShloMosaic Idealize.ShloMosaic.StableHlo Cert.ReferenceIdeal Cert.ReferenceIdeal.Gen Cert.Select Cert.Edges
open Cert.KernelIdeal.Value (gated featnArr simRow adjArr h1Arr h2Arr eps)

/-- Two matrices that agree at every pair of coordinates are equal. -/
theorem ext2 {a b : ℕ} {α : Type} {A B : (mat a b).Idx → α} (h : ∀ i k, A (ix2 i k) = B (ix2 i k)) : A = B := by
  funext j
  rw [← ix2_eta j]
  exact h (j 0) (j 1)

/-- The floor of the divisors is positive. -/
theorem eps_pos : 0 < eps := by
  unfold eps
  simp only [Ideal.ofBits, Ideal.ieee]
  norm_num
  rw [if_neg (by decide), if_neg (by decide), if_neg (by decide)]
  exact EReal.coe_pos.2 (by positivity)

/-- Dividing by a floored divisor is multiplying by its reciprocal. -/
theorem div_floor (x y : EReal) : Ideal.div x (max y eps) = x * Ideal.div 1 (max y eps) := by
  have h : max y eps ≠ 0 := ne_of_gt (lt_max_of_lt_right eps_pos)
  unfold Ideal.div
  rw [if_neg h, if_neg h, one_mul]

variable (V : Valuation τ sig (Elt Ideal))

/-- The features of the arguments. -/
abbrev featOf : Vec Ideal S8192x128 .f32 :=
  featnArr (V (Proc.tc.devRef main_arg0)) (V (Proc.tc.devRef main_arg1)) (fun f => V (Proc.tc.devRef main_arg2) (ix1 f))

/-- The reference's gated features, as an array. -/
abbrev gatedRef : S8192x128.Idx → EReal := res_main_v10 V

/-- The reference's normalised features, as an array. -/
abbrev featRef : S8192x128.Idx → EReal := res_main_v15 V

/-- The reference's gated features at an index. -/
theorem v10_apply (i : Fin 8192) (f : Fin 128) : gatedRef V (ix2 i f) =
    gated (V (Proc.tc.devRef main_arg0)) (V (Proc.tc.devRef main_arg1)) (fun f => V (Proc.tc.devRef main_arg2) (ix1 f)) i f := by
  unfold gatedRef res_main_v10
  clean_types
  pointwise
  rfl

/-- The reference's normalised features are the kernel's. -/
theorem v15_eq : featRef V = featOf V := by
  refine ext2 fun i k => ?_
  have e : featRef V (ix2 i k) = Ideal.div (gatedRef V (ix2 i k))
      (max (Ideal.sqrt (∑ x : Fin 8192, gatedRef V (ix2 x k) * gatedRef V (ix2 x k))) (Ideal.ofBits FTy.f32 730643660#32)) := by
    unfold featRef res_main_v15
    clean_types
    pointwise
  refine e.trans ?_
  simp only [v10_apply]
  exact div_floor _ _

/-- The reference's similarity matrix at an index. -/
theorem sim_apply (i c : Fin 8192) : simOf V (ix2 i c) = simRow (featOf V) i c := by
  have e : simOf V (ix2 i c) = ∑ x : Fin 128, featRef V (ix2 i x) * featRef V (ix2 c x) := by
    unfold simOf res_main_v17
    clean_types
    pointwise
  refine e.trans ?_
  rw [v15_eq]
  rfl

/-! ## The layers, over what they accumulate -/

/-- Each node's degree. -/
def degRef : FVec Ideal S8192 .f32 :=
  Host.scatterAdd scatter_S8192_S81920x1_S81920_n_0_0_1 (broadcastInDim S8192 ![] bcast_S_S8192 (constant S_ .f32 0x00000000#32))
    (broadcastInDim S81920x1 ![0] bcast_S81920_S81920x1_0 (res_main_v20 V)) (res_main_v22 V)

/-- The weighted sum of each node's ten neighbours' features. -/
def agg128 (F : FVec Ideal S8192x128 .f32) : FVec Ideal S8192x128 .f32 :=
  Host.scatterAdd scatter_S8192x128_S81920x1_S81920x128_1_0_0_1 (broadcastInDim S8192x128 ![] bcast_S_S8192x128 (constant S_ .f32 0x00000000#32)) (broadcastInDim S81920x1 ![0] bcast_S81920_S81920x1_0 (res_main_v20 V)) (mulf (broadcastInDim S81920x128 ![0, 1] bcast_S81920x1_S81920x128_0_1 (broadcastInDim S81920x1 ![0] bcast_S81920_S81920x1_0 (res_main_v22 V))) (select (broadcastInDim S81920x128 ![0] bcast_S81920_S81920x128_0 (Host.reduce IntOp.andi (andi (cmpi .sge (res_main_call1_v5 V) (broadcastInDim S81920x1 ![] bcast_S_S81920x1 (constantI S_ 32 0#32))) (cmpi .sle (res_main_call1_v5 V) (broadcastInDim S81920x1 ![0, 1] bcast_S1x1_S81920x1_0_1 (broadcastInDim S1x1 ![1] bcast_S1_S1x1_1 (constantI S1 32 8191#32))))) (constantI S_ 1 1#1) reducesTo_S81920x1_S81920_d1 h_S_)) (Host.gather gather_S8192x128_S81920x1_S81920x128_1_0_n_n_0_1_1128 F (res_main_call1_v5 V)) (broadcastInDim S81920x128 ![] bcast_S_S81920x128 (constant S_ .f32 0x7FC00000#32))))

/-- The weighted sum of each node's ten neighbours' first layer. -/
def agg256 (F : FVec Ideal S8192x256 .f32) : FVec Ideal S8192x256 .f32 :=
  Host.scatterAdd scatter_S8192x256_S81920x1_S81920x256_1_0_0_1 (broadcastInDim S8192x256 ![] bcast_S_S8192x256 (constant S_ .f32 0x00000000#32)) (broadcastInDim S81920x1 ![0] bcast_S81920_S81920x1_0 (res_main_v20 V)) (mulf (broadcastInDim S81920x256 ![0, 1] bcast_S81920x1_S81920x256_0_1 (broadcastInDim S81920x1 ![0] bcast_S81920_S81920x1_0 (res_main_v22 V))) (select (broadcastInDim S81920x256 ![0] bcast_S81920_S81920x256_0 (Host.reduce IntOp.andi (andi (cmpi .sge (res_main_call3_v5 V) (broadcastInDim S81920x1 ![] bcast_S_S81920x1 (constantI S_ 32 0#32))) (cmpi .sle (res_main_call3_v5 V) (broadcastInDim S81920x1 ![0, 1] bcast_S1x1_S81920x1_0_1 (broadcastInDim S1x1 ![1] bcast_S1_S1x1_1 (constantI S1 32 8191#32))))) (constantI S_ 1 1#1) reducesTo_S81920x1_S81920_d1 h_S_)) (Host.gather gather_S8192x256_S81920x1_S81920x256_1_0_n_n_0_1_1256 F (res_main_call3_v5 V)) (broadcastInDim S81920x256 ![] bcast_S_S81920x256 (constant S_ .f32 0x7FC00000#32))))

/-- The first layer from its sums and degrees. -/
def layer1 (A : FVec Ideal S8192x128 .f32) (d : FVec Ideal S8192 .f32) (W : FVec Ideal S128x256 .f32) (b : FVec Ideal S256 .f32) :
    FVec Ideal S8192x256 .f32 :=
  maximumf (addf (Host.dotGeneral dot_S8192x128_S128x256_S8192x256_1_0_0_1_n_n none (Host.divf A (broadcastInDim S8192x128 ![0, 1] bcast_S8192x1_S8192x128_0_1 (broadcastInDim S8192x1 ![0] bcast_S8192_S8192x1_0 (maximumf d (broadcastInDim S8192 ![] bcast_S_S8192 (constant S_ .f32 0x2B8CBCCC#32)))))) W) (broadcastInDim S8192x256 ![0, 1] bcast_S1x256_S8192x256_0_1 (broadcastInDim S1x256 ![1] bcast_S256_S1x256_1 b))) (broadcastInDim S8192x256 ![] bcast_S_S8192x256 (constant S_ .f32 0x00000000#32))

/-- The second layer from its sums and degrees. -/
def layer2 (A : FVec Ideal S8192x256 .f32) (d : FVec Ideal S8192 .f32) (W : FVec Ideal S256x64 .f32) (b : FVec Ideal S64 .f32) :
    FVec Ideal S8192x64 .f32 :=
  addf (Host.dotGeneral dot_S8192x256_S256x64_S8192x64_1_0_0_1_n_n none (Host.divf A (broadcastInDim S8192x256 ![0, 1] bcast_S8192x1_S8192x256_0_1 (broadcastInDim S8192x1 ![0] bcast_S8192_S8192x1_0 (maximumf d (broadcastInDim S8192 ![] bcast_S_S8192 (constant S_ .f32 0x2B8CBCCC#32)))))) W) (broadcastInDim S8192x64 ![0, 1] bcast_S1x64_S8192x64_0_1 (broadcastInDim S1x64 ![1] bcast_S64_S1x64_1 b))

/-- The first layer at an index. -/
theorem layer1_apply (A : FVec Ideal S8192x128 .f32) (d : FVec Ideal S8192 .f32) (W : FVec Ideal S128x256 .f32) (b : FVec Ideal S256 .f32)
    (i : Fin 8192) (g : Fin 256) : layer1 A d W b (ix2 i g) =
      max ((∑ f : Fin 128, Ideal.div (A (ix2 i f)) (max (d (ix1 i)) eps) * (W (ix2 f g) : EReal)) + (b (ix1 g) : EReal)) 0 := by
  unfold layer1
  pointwise

/-- The second layer at an index. -/
theorem layer2_apply (A : FVec Ideal S8192x256 .f32) (d : FVec Ideal S8192 .f32) (W : FVec Ideal S256x64 .f32) (b : FVec Ideal S64 .f32)
    (i : Fin 8192) (g : Fin 64) : layer2 A d W b (ix2 i g) =
      (∑ f : Fin 256, Ideal.div (A (ix2 i f)) (max (d (ix1 i)) eps) * (W (ix2 f g) : EReal)) + (b (ix1 g) : EReal) := by
  unfold layer2
  pointwise

/-- The kernel's first layer at an index. -/
theorem h1Arr_apply (F : S8192x128.Idx → EReal) (W : S128x256.Idx → EReal) (b : Fin 256 → EReal) (i : Fin 8192) (g : Fin 256) :
    h1Arr F W b (ix2 i g) = max ((∑ f : Fin 128, Ideal.div (∑ c : Fin 8192, keep (thresh (simRow F i)) (simRow F i c) * F (ix2 c f))
      (max (degree (simRow F i)) eps) * W (ix2 f g)) + b g) 0 := rfl

/-- The kernel's second layer at an index. -/
theorem h2Arr_apply (A : S8192x8192.Idx → EReal) (H : S8192x256.Idx → EReal) (W : S256x64.Idx → EReal) (b : Fin 64 → EReal) (i : Fin 8192) (g : Fin 64) :
    h2Arr A H W b (ix2 i g) = (∑ f : Fin 256, Ideal.div (∑ c : Fin 8192, A (ix2 i c) * H (ix2 c f))
      (max (∑ c : Fin 8192, A (ix2 i c)) eps) * W (ix2 f g)) + b g := rfl

/-- A kept similarity times a feature is the product where kept. -/
theorem keep_mul (u v x : EReal) : keep u v * x = if u ≤ v then v * x else 0 := by
  unfold keep
  split
  · rfl
  · exact zero_mul x

/-! ## The results, where each row's ten greatest are its selection -/

section
variable (h : ∀ i, Tops (fun c => simOf V (ix2 i c)) (nth (simOf V) i))
include h

/-- The selection of a row of the similarities. -/
theorem tops (i : Fin 8192) : Tops (simRow (featOf V) i) (nth (simOf V) i) := by
  have e : (fun c => simOf V (ix2 i c)) = simRow (featOf V) i := funext fun c => sim_apply V i c
  rw [← e]
  exact h i

/-- The reference's adjacency matrix is the kernel's. -/
theorem adj_eq : adjOf V = adjArr (featOf V) := by
  refine ext2 fun i k => ?_
  have t := tops V h i
  show adjOf V (ix2 i k) = keep (thresh (simRow (featOf V) i)) (simRow (featOf V) i k)
  rw [t.thresh_eq]
  unfold keep
  split
  next hle =>
    obtain ⟨l, hk, hj⟩ := (t.le_iff (by norm_num) _).1 hle
    exact (adj_hit V _ _ ⟨l, by omega, hj⟩).trans (sim_apply V _ _)
  next hle =>
    refine adj_miss V _ _ fun ⟨l, hk, hj⟩ => hle ((t.le_iff (by norm_num) _).2 ⟨l, by omega, hj⟩)

/-- The sum of a row's kept similarities times a column is the sum over its ten edges. -/
theorem sum_kept (i : Fin 8192) (x : Fin 8192 → EReal) :
    ∑ c, keep (thresh (simRow (featOf V) i)) (simRow (featOf V) i c) * x c =
      ∑ k ∈ Finset.range 10, (simOf V (ix2 i (nth (simOf V) i k)) : EReal) * x (nth (simOf V) i k) := by
  simp only [keep_mul, sim_apply]
  exact (tops V h i).sum_keep fun c => simRow (featOf V) i c * x c

/-- A node's degree is what the kernel sums from the triples. -/
theorem deg_eq (i : Fin 8192) : degRef V (ix1 i) = degree (simRow (featOf V) i) := by
  refine (deg_apply V i).trans ?_
  simp only [sim_apply]
  exact (tops V h i).degree_eq.symm

/-- A node's degree is the sum of its adjacency row. -/
theorem deg_row (i : Fin 8192) : degRef V (ix1 i) = ∑ c : Fin 8192, adjArr (featOf V) (ix2 i c) := by
  refine (deg_apply V i).trans ?_
  simp only [sim_apply]
  exact ((tops V h i).sum_keep (simRow (featOf V) i)).symm

/-- The reference's first layer is the kernel's. -/
theorem h1_eq (W : FVec Ideal S128x256 .f32) (b : FVec Ideal S256 .f32) :
    layer1 (agg128 V (featRef V)) (degRef V) W b = h1Arr (featOf V) W (fun f => b (ix1 f)) := by
  refine ext2 fun i k => ?_
  refine (layer1_apply _ _ _ _ _ _).trans ?_
  refine Eq.trans ?_ (h1Arr_apply _ _ _ i k).symm
  rw [deg_eq V h, v15_eq]
  have e : ∀ f : Fin 128, (agg128 V (featOf V) (ix2 i f) : EReal) =
      ∑ c : Fin 8192, keep (thresh (simRow (featOf V) i)) (simRow (featOf V) i c) * featOf V (ix2 c f) :=
    fun f => (agg128_apply V (featOf V) i f).trans (sum_kept V h i fun c => featOf V (ix2 c f)).symm
  simp only [e]

/-- The reference's second layer is the kernel's. -/
theorem h2_eq (H : FVec Ideal S8192x256 .f32) (W : FVec Ideal S256x64 .f32) (b : FVec Ideal S64 .f32) :
    layer2 (agg256 V H) (degRef V) W b = h2Arr (adjArr (featOf V)) H W (fun f => b (ix1 f)) := by
  refine ext2 fun i k => ?_
  refine (layer2_apply _ _ _ _ _ _).trans ?_
  refine Eq.trans ?_ (h2Arr_apply _ _ _ _ i k).symm
  rw [deg_row V h]
  have e : ∀ f : Fin 256, (agg256 V H (ix2 i f) : EReal) =
      ∑ c : Fin 8192, adjArr (featOf V) (ix2 i c) * H (ix2 c f) :=
    fun f => (agg256_apply V H i f).trans (sum_kept V h i fun c => H (ix2 c f)).symm
  simp only [e]

end

end Cert.ReferenceIdeal.Value

end
-- ==== Proof.PreDecode.lean ====
/- What the precondition says of the similarity matrix it computes: every row's eleven greatest are strictly apart and at
   most three columns of a lane class reach the tenth, so that the ten greatest of each row are its selection. -/
module

public import proofs.«01_k».proof.Pre_ten_greatest_apart_three_per_lane
public import proofs.«01_k».proof.Proof.RefValue
public import Idealize.ShloMosaic.Lib.Pointwise
public import Idealize.ShloMosaic.Lib.IndicatorCount
public import Idealize.ShloMosaic.Lib.Routing.OpsPair

@[expose] public section

noncomputable section

namespace Cert.Pre_ten_greatest_apart_three_per_lane

open Idealize.ShloMosaic Cert.Select

/-- A conjunction of bits that holds has each of its bits. -/
theorem all_of_fold {ι : Type} [Fintype ι] (p : ι → BitVec 1) (h : Finset.fold IntOp.andi (1#1) p Finset.univ = 1#1) (x : ι) :
    p x = 1#1 := by
  classical
  have key : ∀ S : Finset ι, Finset.fold IntOp.andi (1#1) p S = 1#1 → ∀ x ∈ S, p x = 1#1 := fun S => by
    induction S using Finset.induction_on with
    | empty => intro _ x hx; exact absurd hx (Finset.notMem_empty x)
    | insert a S ha ih =>
      intro h x hx
      rw [Finset.fold_insert ha] at h
      have e : ∀ u v : BitVec 1, IntOp.andi u v = 1#1 → u = 1#1 ∧ v = 1#1 := by decide
      obtain ⟨h1, h2⟩ := e _ _ h
      rcases Finset.mem_insert.1 hx with rfl | hx
      · exact h1
      · exact ih h2 x hx
  exact key Finset.univ h x (Finset.mem_univ x)

/-- A count of at most 64 whose word is at most three, signed, is at most three. -/
theorem le_three {n : ℕ} (hn : n ≤ 64) (h : IntOp.cmpi .sle (BitVec.ofNat 32 n) 3#32 = 1#1) : n ≤ 3 := by
  by_contra h'
  have e : (BitVec.ofNat 32 n).toInt = (n : Int) := StableHlo.Predicate.toInt_ofNat_small _ (by omega)
  have h3 : (3#32).toInt = 3 := rfl
  unfold IntOp.cmpi at h
  simp only [BitVec.sle, e, h3] at h
  rw [decide_eq_false (show ¬ (n : Int) ≤ 3 by omega)] at h
  exact absurd h (by decide)

/-- The count over a lane's columns, read over the 64 groups. -/
theorem cnt_lane (r : Fin 8192 → EReal) (l : Fin 128) (u : EReal) :
    cnt (laneVal r l) 64 u = (Finset.univ.filter fun g : Fin 64 =>
      BitVec.ofBool (decide (u ≤ r ⟨g.val * 128 + l.val, by omega⟩)) = 1#1).card := by
  have ofBool_one : ∀ b : Bool, BitVec.ofBool b = 1#1 ↔ b = true := by decide
  unfold cnt
  rw [Finset.card_filter, Finset.card_filter, Finset.sum_range]
  refine Finset.sum_congr rfl fun g _ => ?_
  have e : laneVal r l g.val = r ⟨g.val * 128 + l.val, by omega⟩ := by
    unfold laneVal
    refine congrArg r (Fin.eq_of_val_eq ?_)
    show (128 * g.val + l.val) % 8192 = g.val * 128 + l.val
    omega
  simp only [e, ofBool_one, decide_eq_true_eq]

variable [Facts]
open Facts

/-- The conditions on the top eleven values and the lane counts give each row's selection. -/
theorem part1_tops (X : FVec Ideal S8192x8192 .f32)
    (h : fn_part1 X (Host.topK S8192x11 1 (FloatOps.cmpfTotal .gt) X sliceFits_S8192x8192_S8192x11).1
        (extractStridedSlice S8192x10 ![0, 0] (Host.topK S8192x11 1 (FloatOps.cmpfTotal .gt) X sliceFits_S8192x8192_S8192x11).1
          slices_S8192x11_S8192x10_0_0) = fun _ => 1#1) (i : Fin 8192) :
    Tops (fun c => X (ix2 i c)) (nth X i) := by
  have hv : ∀ k : Fin 11, (Host.topK S8192x11 1 (FloatOps.cmpfTotal .gt) X sliceFits_S8192x8192_S8192x11).1 (ix2 i k)
      = X (ix2 i (nth X i k.val)) := fun k => topK_value X sliceFits_S8192x8192_S8192x11 i k (by omega)
  revert h hv
  generalize (Host.topK S8192x11 1 (FloatOps.cmpfTotal .gt) X sliceFits_S8192x8192_S8192x11).1 = v
  intro h hv
  have h0 := congrFun h ix0
  unfold fn_part1 at h0
  pointwise at h0
  have e : ∀ u v : BitVec 1, IntOp.andi u v = 1#1 → u = 1#1 ∧ v = 1#1 := by decide
  obtain ⟨hA, hB⟩ := e _ _ h0
  have ofBool_one : ∀ b : Bool, BitVec.ofBool b = 1#1 ↔ b = true := by decide
  refine tops_of X i (fun k hk => ?_) (fun l => ?_)
  · have t : v (ix2 i ⟨1 + k, by omega⟩) < v (ix2 i ⟨k, by omega⟩) :=
      of_decide_eq_true ((ofBool_one _).1 (all_of_fold _ hA (i, (⟨k, hk⟩ : Fin 10))))
    rw [hv, hv] at t
    simpa only [Nat.add_comm 1 k] using t
  · have t : IntOp.cmpi .sle (Finset.univ.fold IntOp.addi (0#32) (fun g : Fin 64 =>
        (BitVec.ofBool (decide (v (ix2 i 9) ≤ X (ix2 i ⟨g.val * 128 + l.val, by omega⟩)))).setWidth 32)) 3#32 = 1#1 :=
      all_of_fold _ hB (i, l)
    rw [IndicatorCount.fold_addi_setWidth_eq_card] at t
    have t := le_three ((Finset.card_le_univ _).trans (by simp)) t
    rw [hv 9] at t
    exact (cnt_lane (fun c => X (ix2 i c)) l _).trans_le t

open Cert.KernelIdeal.Value (gated featnArr simRow)

/-- The gated features the precondition computes. -/
def preGated (x : FVec Ideal S8192x128 .f32) (W : FVec Ideal S128x128 .f32) (b : FVec Ideal S128 .f32) : FVec Ideal S8192x128 .f32 :=
  mulf (Host.divf (broadcastInDim S8192x128 ![] bcast_S_S8192x128 (constant S_ .f32 0x3F800000#32))
    (addf (broadcastInDim S8192x128 ![] bcast_S_S8192x128 (constant S_ .f32 0x3F800000#32))
      (Host.exp (Host.negf (addf (Host.dotGeneral dot_S8192x128_S128x128_S8192x128_1_0_0_1_n_n none x W)
        (broadcastInDim S8192x128 ![0, 1] bcast_S1x128_S8192x128_0_1 (broadcastInDim S1x128 ![1] bcast_S128_S1x128_1 b))))))) x

/-- The normalised features the precondition computes, from the gated ones. -/
def preNormed (g : FVec Ideal S8192x128 .f32) : FVec Ideal S8192x128 .f32 :=
  Host.divf g (broadcastInDim S8192x128 ![0, 1] bcast_S1x128_S8192x128_0_1
    (maximumf (fn_norm g) (broadcastInDim S1x128 ![] bcast_S_S1x128 (constant S_ .f32 0x2B8CBCCC#32))))

/-- The similarity matrix the precondition computes, from the normalised features. -/
def preSim (n : FVec Ideal S8192x128 .f32) : FVec Ideal S8192x8192 .f32 :=
  Host.dotGeneral dot_S8192x128_S128x8192_S8192x8192_1_0_0_1_n_n none n (transpose S128x8192 [1, 0] n transposes_S8192x128_S128x8192_1_0)

/-- The precondition's gated features at an index. -/
theorem preGated_apply (x : FVec Ideal S8192x128 .f32) (W : FVec Ideal S128x128 .f32) (b : FVec Ideal S128 .f32) (i : Fin 8192) (f : Fin 128) :
    (preGated x W b (ix2 i f) : EReal) = gated x W (fun f => b (ix1 f)) i f := by
  unfold preGated
  pointwise
  rfl

/-- The precondition's normalised features are the kernel's. -/
theorem preNormed_eq (x : FVec Ideal S8192x128 .f32) (W : FVec Ideal S128x128 .f32) (b : FVec Ideal S128 .f32) :
    preNormed (preGated x W b) = featnArr x W (fun f => b (ix1 f)) := by
  refine Cert.ReferenceIdeal.Value.ext2 fun i k => ?_
  have e : ∀ g : FVec Ideal S8192x128 .f32, (preNormed g (ix2 i k) : EReal) = Ideal.div (g (ix2 i k))
      (max (Ideal.sqrt (∑ l : Fin 8192, (g (ix2 l k) : EReal) * g (ix2 l k))) (Ideal.ofBits FTy.f32 730643660#32)) := fun g => by
    unfold preNormed fn_norm
    pointwise
  refine (e _).trans ?_
  simp only [preGated_apply]
  exact Cert.ReferenceIdeal.Value.div_floor _ _

/-- The precondition's similarities at an index. -/
theorem preSim_apply (n : FVec Ideal S8192x128 .f32) (i c : Fin 8192) : (preSim n (ix2 i c) : EReal) = simRow n i c := by
  unfold preSim simRow
  pointwise

/-- The precondition gives the selection of every row of the features' similarity matrix. -/
theorem tops_of_pre (x : FVec Ideal S8192x128 .f32) (W : FVec Ideal S128x128 .f32) (b : FVec Ideal S128 .f32)
    (a3 : FVec Ideal S128x256 .f32) (a4 : FVec Ideal S256 .f32) (a5 : FVec Ideal S256x64 .f32) (a6 : FVec Ideal S64 .f32)
    (h : fn x W b a3 a4 a5 a6 = fun _ => 1#1) (X : FVec Ideal S8192x8192 .f32)
    (hX : ∀ i c, (X (ix2 i c) : EReal) = simRow (featnArr x W fun f => b (ix1 f)) i c) (i : Fin 8192) :
    Tops (fun c => X (ix2 i c)) (nth X i) := by
  have e : preSim (preNormed (preGated x W b)) = X := Cert.ReferenceIdeal.Value.ext2 fun i c => by
    rw [preNormed_eq]
    exact (preSim_apply _ i c).trans (hX i c).symm
  have t := part1_tops (preSim (preNormed (preGated x W b))) h i
  rw [e] at t
  exact t

end Cert.Pre_ten_greatest_apart_three_per_lane

end
-- ==== Proof.KernelRun.lean ====
/- The kernel's run: its three results, from the launch contents. -/
module
public import proofs.«01_k».proof.Proof.Arrays
import Idealize.ShloMosaic.Lib.Claim
@[expose] public section
set_option maxRecDepth 16384
noncomputable section
namespace Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Select

local notation "𝕄" => MT nD τ sig Unit (Elt Ideal) ℕ (UR sig nD τ) ℕ

variable (m : (ℓ : Loc nD τ sig) → Buf (Elt Ideal) ℓ) (ρ : Dev nD → PrngReg) (c : Dev nD)

/-- The features' array of the kernel, from the launch contents. -/
def featnOf : Vec Ideal S8192x128 .f32 :=
  featnArr (m (c.tc.loc main_arg0)) (m (c.tc.loc main_arg1)) (fun f => m (c.tc.loc main_arg2) (ix1 f))

/-- The kernel's first layer, from the launch contents. -/
def h1Of : Vec Ideal S8192x256 .f32 :=
  h1Arr (featnOf m c) (m (c.tc.loc main_arg3)) (fun f => m (c.tc.loc main_arg4) (ix1 f))

/-- The kernel's second layer, from the launch contents. -/
def h2Of : Vec Ideal S8192x64 .f32 :=
  h2Arr (adjArr (featnOf m c)) (h1Of m c) (m (c.tc.loc main_arg5)) (fun f => m (c.tc.loc main_arg6) (ix1 f))

/-- The first call's bias row is the gate's bias. -/
theorem W1_v0 (f : Fin 128) : (V1 m ρ c main_v0 : Vec Ideal S1x128 .f32) (ix2 0 f) = (m (c.tc.loc main_arg2) : Vec Ideal S128 .f32) (ix1 f) := by
  have h : (V1 m ρ c main_v0 : Vec Ideal S1x128 .f32) = shapeCast S1x128 (m (c.tc.loc main_arg2) : Vec Ideal S128 .f32) shapeCasts_S128_S1x128 := by
    unfold_abbrev_sides
    after_results
    rfl
  rw [h]
  pointwise

/-- The second call's bias row is the first layer's bias. -/
theorem W1_v1 (f : Fin 256) : (V1 m ρ c main_v1 : Vec Ideal S1x256 .f32) (ix2 0 f) = (m (c.tc.loc main_arg4) : Vec Ideal S256 .f32) (ix1 f) := by
  have h : (V1 m ρ c main_v1 : Vec Ideal S1x256 .f32) = shapeCast S1x256 (m (c.tc.loc main_arg4) : Vec Ideal S256 .f32) shapeCasts_S256_S1x256 := by
    unfold_abbrev_sides
    after_results
    rfl
  rw [h]
  pointwise

/-- The third call's bias row is the second layer's bias. -/
theorem W1_v2 (f : Fin 64) : (V1 m ρ c main_v2 : Vec Ideal S1x64 .f32) (ix2 0 f) = (m (c.tc.loc main_arg6) : Vec Ideal S64 .f32) (ix1 f) := by
  have h : (V1 m ρ c main_v2 : Vec Ideal S1x64 .f32) = shapeCast S1x64 (m (c.tc.loc main_arg6) : Vec Ideal S64 .f32) shapeCasts_S64_S1x64 := by
    unfold_abbrev_sides
    after_results
    rfl
  rw [h]
  pointwise

/-- After the first kernel the features' buffer holds the features. -/
theorem W2_v3 : V2 m ρ c main_v3 = featnOf m c := by
  refine (W2_arr m ρ c 3).trans ((featn_array (V1 m ρ) c).trans ?_)
  unfold featnOf
  rw [show V1 m ρ c main_arg0 = m (c.tc.loc main_arg0) from W1_args m ρ c main_arg0 (by decide),
    show V1 m ρ c main_arg1 = m (c.tc.loc main_arg1) from W1_args m ρ c main_arg1 (by decide)]
  exact congrArg (featnArr _ _) (funext fun f => W1_v0 m ρ c f)

/-- After the second kernel its two results' buffers hold the adjacency and the first layer. -/
theorem W3_v4_0 : V3 m ρ c main_v4_0 = adjArr (featnOf m c) :=
  (W3_arr m ρ c 4).trans ((adj_array (V2 m ρ) c).trans (congrArg adjArr (W2_v3 m ρ c)))

/-- The second call leaves the first layer. -/
theorem W3_v4_1 : V3 m ρ c main_v4_1 = h1Of m c := by
  refine (W3_arr m ρ c 5).trans ((h1_array (V2 m ρ) c).trans ?_)
  unfold h1Of
  rw [W2_v3, show V2 m ρ c main_arg3 = m (c.tc.loc main_arg3) from W2_args m ρ c main_arg3 (by decide)]
  refine congrArg (h1Arr _ _) (funext fun f => ?_)
  rw [show V2 m ρ c main_v1 = V1 m ρ c main_v1 from W2_of m ρ c main_v1 (by decide)]
  exact W1_v1 m ρ c f

/-- After the third kernel its result's buffer holds the second layer, and the other two are as before. -/
theorem W4_v5 : V4 m ρ c main_v5 = h2Of m c := by
  refine (W4_arr m ρ c 4).trans ((h2_array (V3 m ρ) c).trans ?_)
  unfold h2Of
  rw [W3_v4_0, W3_v4_1, show V3 m ρ c main_arg5 = m (c.tc.loc main_arg5) from W3_args m ρ c main_arg5 (by decide)]
  refine congrArg (h2Arr _ _ _) (funext fun f => ?_)
  rw [show V3 m ρ c main_v2 = V2 m ρ c main_v2 from W3_of m ρ c main_v2 (by decide),
    show V2 m ρ c main_v2 = V1 m ρ c main_v2 from W2_of m ρ c main_v2 (by decide)]
  exact W1_v2 m ρ c f

/-- The adjacency is unchanged by the third call. -/
theorem W4_v4_0 : V4 m ρ c main_v4_0 = adjArr (featnOf m c) := (W4_of m ρ c main_v4_0 (by decide)).trans (W3_v4_0 m ρ c)
/-- The first layer is unchanged by the third call. -/
theorem W4_v4_1 : V4 m ρ c main_v4_1 = h1Of m c := (W4_of m ρ c main_v4_1 (by decide)).trans (W3_v4_1 m ρ c)

set_option backward.isDefEq.respectTransparency.types false in
/-- Every execution of the kernel ends with the three results' buffers at the arrays above and the arguments as launched. -/
theorem run : θ_run defs (onTc (τ := τ) (main (F := Ideal))) ⟨m, fun _ => 0, ρ⟩ (fun r => ∀ c : Dev nD,
      r.2.mem ((c.tc : Thread nD τ).loc main_v4_1) = h1Of m c
      ∧ r.2.mem ((c.tc : Thread nD τ).loc main_v5) = h2Of m c
      ∧ r.2.mem ((c.tc : Thread nD τ).loc main_v4_0) = adjArr (featnOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v4_1 (by decide))).trans (W4_v4_1 m ρ c),
       (h c _ (mem_uc main_v5 (by decide))).trans (W4_v5 m ρ c),
       (h c _ (mem_uc main_v4_0 (by decide))).trans (W4_v4_0 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Value
end
-- ==== Proof.lean ====
/- The claims, assembled: both kernels' frames, the reference's frame, and the equality of the kernel's three results with
   the reference's over the extended reals, where each row of the similarity matrix has its ten greatest apart and at
   most three of them in a lane class. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.PreFacts
public import proofs.«01_k».proof.Proof.PreDecode
public import proofs.«01_k».proof.Proof.RefValue
public import proofs.«01_k».proof.Proof.KernelRun
public import Idealize.ShloMosaic.Adequacy
public import Idealize.ShloMosaic.Init

@[expose] public section

noncomputable section

namespace Cert.Proof

open Idealize.ShloMosaic Idealize.SL.Sem

attribute [local instance] Cert.Pre_ten_greatest_apart_three_per_lane.facts

/-- The reference terminates without fault, leaves its arguments unchanged and every counter at zero. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- Where the precondition holds, the kernel's three results are the reference's over the extended reals. -/
theorem value : Cert.algebraic_KernelIdeal_ReferenceIdeal_pre_ten_greatest_apart_three_per_lane := by
  intro m g m' g' hpre hagree
  refine ⟨fun c => Cert.KernelIdeal.Value.h1Of m c, fun c => Cert.KernelIdeal.Value.h2Of m c,
    fun c => Cert.KernelIdeal.Value.adjArr (Cert.KernelIdeal.Value.featnOf m c), Cert.KernelIdeal.Value.run m g, ?_⟩
  refine (θ_run Cert.ReferenceIdeal.defs _ _).mono (fun r h c => ?_) (Cert.ReferenceIdeal.Value.run (F := Ideal) m' g')
  obtain ⟨h1, h2, hA, hargs⟩ := h c
  obtain ⟨e0, e1, e2, e3, e4, e5, e6⟩ := hagree c
  have hF : Cert.ReferenceIdeal.Value.featOf (StableHlo.launchContents m' c) = Cert.KernelIdeal.Value.featnOf m c := by
    show Cert.KernelIdeal.Value.featnArr (m' (c.tc.loc Cert.ReferenceIdeal.main_arg0)) (m' (c.tc.loc Cert.ReferenceIdeal.main_arg1))
      (fun f => m' (c.tc.loc Cert.ReferenceIdeal.main_arg2) (ix1 f)) = _
    rw [e0, e1, e2]
    rfl
  have ht := fun i => Cert.Pre_ten_greatest_apart_three_per_lane.tops_of_pre _ _ _ _ _ _ _ (hpre c)
    (Cert.ReferenceIdeal.Value.simOf (StableHlo.launchContents m' c))
    (fun i k => (Cert.ReferenceIdeal.Value.sim_apply _ i k).trans (congrArg (fun F => Cert.KernelIdeal.Value.simRow F i k) hF)) i
  have E1 : r.2.mem ((c.tc : Thread Cert.ReferenceIdeal.nD Cert.ReferenceIdeal.τ).loc Cert.ReferenceIdeal.main_v42) = Cert.KernelIdeal.Value.h1Of m c := by
    refine h1.trans ((Cert.ReferenceIdeal.Value.h1_eq _ ht (m' (c.tc.loc Cert.ReferenceIdeal.main_arg3)) (m' (c.tc.loc Cert.ReferenceIdeal.main_arg4))).trans ?_)
    rw [hF, e3, e4]
    rfl
  refine ⟨E1, ?_, hA.trans ((Cert.ReferenceIdeal.Value.adj_eq _ ht).trans (congrArg _ hF)), hargs⟩
  refine h2.trans ?_
  refine (Cert.ReferenceIdeal.Value.h2_eq _ ht _ (m' (c.tc.loc Cert.ReferenceIdeal.main_arg5)) (m' (c.tc.loc Cert.ReferenceIdeal.main_arg6))).trans ?_
  rw [hF, e5, e6]
  exact congrArg (fun H => Cert.KernelIdeal.Value.h2Arr _ H _ _) (h1.symm.trans E1)

/-- Everything the certificate claims. -/
theorem claim : Cert.Claim :=
  ⟨Cert.Kernel.Gen.facts, Cert.KernelIdeal.Gen.facts, Cert.ReferenceIdeal.Gen.facts, Cert.Pre_ten_greatest_apart_three_per_lane.facts,
    fun m g _ => Cert.Kernel.Gen.frame m g, fun m g _ => Cert.KernelIdeal.Gen.frame m g, fun m g _ => Cert.KernelIdeal.Gen.frame m g,
    frame_reference, fun m g _ => frame_reference m g trivial, trivial, value⟩

end Cert.Proof

end
